-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S4 : Shape := ⟨1, ![4]⟩
abbrev S128x256 : Shape := ⟨2, ![128, 256]⟩
abbrev S3x128x256 : Shape := ⟨3, ![3, 128, 256]⟩
abbrev S3x2 : Shape := ⟨2, ![3, 2]⟩
abbrev S_ : Shape := ⟨0, ![]⟩
abbrev S1 : Shape := ⟨1, ![1]⟩
abbrev S128x512 : Shape := ⟨2, ![128, 512]⟩
abbrev S1x1 : Shape := ⟨2, ![1, 1]⟩
abbrev S1x128x256 : Shape := ⟨3, ![1, 128, 256]⟩

abbrev nBuf : Space → Nat
  | .hbm => 5
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S512x256, .f32⟩
  | .hbm, ⟨4, _⟩ => ⟨S256x256, .bf16⟩
  | .local _ .vmem, ⟨0, _⟩ => ⟨S256x256, .bf16⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S512x256, .f32⟩
  | .local _ .vmem, ⟨5, _⟩ => ⟨S128x256, .bf16⟩
  | .local _ .vmem, ⟨6, _⟩ => ⟨S128x256, .bf16⟩
  | .local _ .vmem, ⟨7, _⟩ => ⟨S3x128x256, .bf16⟩
  | .local _ .vmem, ⟨8, _⟩ => ⟨S3x128x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v52 : BitVec 32 := Scalar.addi v2 c2_i32_32
  let c4_i32_33 : BitVec 32 := 4#32
  let v53 : BitVec 32 := Scalar.remsi v52 c4_i32_33
  let c1_i32_39 : BitVec 32 := 1#32
  let v54 : BitVec 32 := Scalar.muli v53 c1_i32_39
  let v55 : BitVec 32 := Scalar.addi c0_i32_40 v54
  v55.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v62 : BitVec 32 := Scalar.addi v2 c1_i32_43
  let c4_i32_44 : BitVec 32 := 4#32
  let v63 : BitVec 32 := Scalar.remsi v62 c4_i32_44
  let c1_i32_50 : BitVec 32 := 1#32
  let v64 : BitVec 32 := Scalar.muli v63 c1_i32_50
  let v65 : BitVec 32 := Scalar.addi c0_i32_51 v64
  v65.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v72 : BitVec 32 := Scalar.addi v2 c3_i32_54
  let c4_i32_55 : BitVec 32 := 4#32
  let v73 : BitVec 32 := Scalar.remsi v72 c4_i32_55
  let c1_i32_61 : BitVec 32 := 1#32
  let v74 : BitVec 32 := Scalar.muli v73 c1_i32_61
  let v75 : BitVec 32 := Scalar.addi c0_i32_62 v74
  v75.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v88 : BitVec 32 := Scalar.addi v2 c2_i32_68
  let c4_i32_69 : BitVec 32 := 4#32
  let v89 : BitVec 32 := Scalar.remsi v88 c4_i32_69
  let c1_i32_75 : BitVec 32 := 1#32
  let v90 : BitVec 32 := Scalar.muli v89 c1_i32_75
  let v91 : BitVec 32 := Scalar.addi c0_i32_76 v90
  v91.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_79 : BitVec 32 := 1#32
  let v98 : BitVec 32 := Scalar.addi v2 c1_i32_79
  let c4_i32_80 : BitVec 32 := 4#32
  let v99 : BitVec 32 := Scalar.remsi v98 c4_i32_80
  let c1_i32_86 : BitVec 32 := 1#32
  let v100 : BitVec 32 := Scalar.muli v99 c1_i32_86
  let v101 : BitVec 32 := Scalar.addi c0_i32_87 v100
  v101.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_90 : BitVec 32 := 3#32
  let v108 : BitVec 32 := Scalar.addi v2 c3_i32_90
  let c4_i32_91 : BitVec 32 := 4#32
  let v109 : BitVec 32 := Scalar.remsi v108 c4_i32_91
  let c1_i32_97 : BitVec 32 := 1#32
  let v110 : BitVec 32 := Scalar.muli v109 c1_i32_97
  let v111 : BitVec 32 := Scalar.addi c0_i32_98 v110
  v111.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x2048, .f32⟩
  | .hbm, ⟨3, _⟩ => ⟨S2048x256, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S256x256, .f32⟩
  | .hbm, ⟨14, _⟩ => ⟨S256x256, .bf16⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Protocol.lean ====
/-
# The protocol of the exchange: cells, contents and schedule

Every device multiplies its own slice of the weights and obtains a partial result of the whole answer, in two halves
of 128 rows (`Half`, 0 and 1). It sends each half, rounded to bf16, to the three other devices; the copy to the device
`h + 1` places further on (`hop h`) is written into slot `h` of that device's landing buffer for the half, so on every
device slot `h` receives from the device `h + 1` places back, `(hop h).symm`.

Before the copies the devices shake hands on the runtime's barrier semaphore: each device signals the three others and
waits for three signals. The proof reads a signal as a permission to write: device `c`'s signal to `(hop h).symm c` says
that slots `h` of both of `c`'s landing buffers stand ready, and hands those slots over.

The library of rounds (duties, amounts, payloads) carries this. A device has thirteen cells: the barrier (`gate`), and for
each hop and half a cell that the outgoing copy credits when its source is free again (`out`) and a cell that the
incoming copy credits when it has landed (`inn`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: one copy of the rounds library for the pipeline, one for the exchange, counters for the local copies -/

/-- The exchange's ghost state: duties are named by a hop. -/
abbrev UX : Type := URounds (GSem nD τ sig) (Fin 3)
/-- The ghost state of the run: the pipeline's, and the exchange's with its counters. -/
abbrev UU : Type := UR sig nD τ × (UX × Counters)

local notation "𝕄" => MT nD τ sig Unit (Elt F) ℕ UU ℕ

/-- Where the pipeline's ghost state lies in it. -/
abbrev EP : Emb (UR sig nD τ) (MT nD τ sig Unit (Elt F) ℕ UU ℕ) := embL
/-- Where the exchange's ghost state lies in it. -/
def EX : Emb UX (MT nD τ sig Unit (Elt F) ℕ UU ℕ) := (Emb.inl : Emb UX (UX × Counters)).trans embR
/-- The exchange's ghost state lies in the part that invariants may hold. -/
instance EX_landsIn : (EX : Emb UX (MT nD τ sig Unit (Elt F) ℕ UU ℕ)).LandsIn (upEmb : UEmb _ (MT nD τ sig Unit (Elt F) ℕ UU ℕ)) := by
  unfold EX embR; infer_instance

variable (m : (ℓ : Loc nD τ sig) → Buf (Elt F) ℓ)

/-! ## Hops -/

/-- The two halves of a result: rows 0–127 and rows 128–255. -/
abbrev Half : Type := Fin 2
/-- One of the six copies that a device sends (or receives): a hop and a half. -/
abbrev Slot : Type := Fin 3 × Half

set_option backward.proofsInPublic true in
/-- The device `h + 1` places further on; backwards, the one `h + 1` places back. -/
def hop (h : Fin 3) : Dev nD ≃ Dev nD where
  toFun c := ⟨(c.val + (h.val + 1)) % 4, Nat.mod_lt _ (by decide)⟩
  invFun c := ⟨(c.val + (3 - h.val)) % 4, Nat.mod_lt _ (by decide)⟩
  left_inv c := by revert c h; decide
  right_inv c := by revert c h; decide

/-- A word that names the device `h + 1` places on (a signal's target, a copy's target) names `hop h c`. -/
theorem eq_hop {c : Dev nD} {n : ℕ} {hn : n < nD} (h : Fin 3) (e : n = (c.val + (h.val + 1)) % 4) : (⟨n, hn⟩ : Dev nD) = hop h c :=
  Fin.ext e
/-- The same device seen as a step back by the complementary hop. -/
theorem eq_back {c : Dev nD} {n : ℕ} {hn : n < nD} (h : Fin 3) (e : n = (c.val + (3 - h.val)) % 4) : (⟨n, hn⟩ : Dev nD) = (hop h).symm c :=
  Fin.ext e

/-! ## Memrefs and cells -/

/-- The buffer a half's partial result is sent from. -/
abbrev sendM (k : Half) : Memref sig .tc .vmem S128x256 .bf16 :=
  match k with
  | 0 => Memref.whole cc0_scratch5
  | 1 => Memref.whole cc0_scratch6
/-- The landing buffer of a half: three slots. -/
abbrev landM (k : Half) : Memref sig .tc .vmem S3x128x256 .bf16 :=
  match k with
  | 0 => Memref.whole cc0_scratch7
  | 1 => Memref.whole cc0_scratch8

/-- A slot lies inside the landing buffer. -/
theorem slot_inb (h : Fin 3) : ∀ a, (![h.val, 0, 0] : Fin 3 → Nat) a + S1x128x256.size a ≤ S3x128x256.size a := by revert h; decide
/-- A slot's semaphore lies inside its array. -/
theorem sem_inb (s : Slot) : ∀ a, (![s.1.val, s.2.val] : Fin 2 → Nat) a + S1x1.size a ≤ S3x2.size a := by revert s; decide

/-- The rectangle of a slot in the landing buffer. -/
abbrev slotRect (h : Fin 3) : Rect S3x128x256 := Rect.unit (s := S3x128x256) ![h.val, 0, 0] S1x128x256.size (slot_inb h)
/-- Slot `s.1` of the landing buffer of half `s.2`, as a matrix. -/
abbrev slotM (s : Slot) : Memref sig .tc .vmem S128x256 .bf16 :=
  ((landM s.2).slice (slotRect s.1) (fun _ => rfl)).squeeze S128x256 squeezes_S1x128x256_S128x256

/-- The barrier semaphore. -/
abbrev gateS : Sem sig := (SemArray.scalar (sig.barrier 0 rfl) : Sems sig S_).sem
/-- The semaphore that tells the sender that a copy has been read. -/
abbrev outS (s : Slot) : DmaSem sig :=
  ((cc0_scratch9.slice (Rect.unit (s := S3x2) ![s.1.val, s.2.val] S1x1.size (sem_inb s))).squeeze S_ squeezes_S1x1_S_ : DmaSems sig S_).sem
/-- The semaphore that tells the receiver that a copy has landed. -/
abbrev innS (s : Slot) : DmaSem sig :=
  ((cc0_scratch10.slice (Rect.unit (s := S3x2) ![s.1.val, s.2.val] S1x1.size (sem_inb s))).squeeze S_ squeezes_S1x1_S_ : DmaSems sig S_).sem

/-- The number of a send semaphore. -/
theorem outS_val : ∀ s : Slot, (outS s).val = 5 + (2 * s.1.val + s.2.val) := by decide
/-- The number of a receive semaphore. -/
theorem innS_val : ∀ s : Slot, (innS s).val = 11 + (2 * s.1.val + s.2.val) := by decide

/-- Device `c`'s barrier cell. -/
abbrev gate (c : Dev nD) : GSem nD τ sig := ((c : Thread nD τ), .reg gateS)
/-- Device `c`'s send cell for a slot. -/
abbrev out (c : Dev nD) (s : Slot) : GSem nD τ sig := ((c : Thread nD τ), .dma (outS s))
/-- Device `c`'s receive cell for a slot. -/
abbrev inn (c : Dev nD) (s : Slot) : GSem nD τ sig := ((c : Thread nD τ), .dma (innS s))

/-- What one of the copies credits. -/
abbrev N : ℕ := (Memref.whole cc0_scratch5 : Memref sig .tc .vmem S128x256 .bf16).view.dmaCredit
/-- A copy is worth something. -/
theorem N_pos : 0 < N := View.dmaCredit_pos _ (by decide)
/-- A copy into a slot is worth `N` at the receive cell, -/
theorem credit_slot (s : Slot) : (slotM s).view.dmaCredit = N := by
  obtain ⟨h, k⟩ := s; fin_cases k <;> rfl
/-- and a copy out of a send buffer is worth `N` at the send cell. -/
theorem credit_send (k : Half) : (sendM k).view.dmaCredit = N := by fin_cases k <;> rfl

/-! ## Contents -/

/-- Device `c`'s input `x`. -/
abbrev xAt (c : Dev nD) : Vec F S256x256 .f32 := m ((c : Thread nD τ).loc main_arg0)
/-- Device `c`'s columns of `Wg`. -/
abbrev gAt (c : Dev nD) : Vec F S256x512 .f32 := m ((c : Thread nD τ).loc main_arg1)
/-- Device `c`'s columns of `Wu`. -/
abbrev uAt (c : Dev nD) : Vec F S256x512 .f32 := m ((c : Thread nD τ).loc main_arg2)
/-- Device `c`'s rows of `Wd`. -/
abbrev dAt (c : Dev nD) : Vec F S512x256 .f32 := m ((c : Thread nD τ).loc main_arg3)

/-- The half of device `c`'s partial result that it sends: rounded to bf16. -/
def part (c : Dev nD) (k : Half) : FVec F S128x256 .bf16 :=
  match k with
  | 0 => k0_pay4 (xAt m c) (gAt m c) (uAt m c) (dAt m c)
  | 1 => k0_pay7 (k0_pay6 (k0_pay1 (xAt m c) (gAt m c) (uAt m c)) (k0_pay2 (dAt m c)))

/-- The three copies of one half read the send buffer at once: the share of it lent to each. -/
def lent (h : Fin 3) : PosShare TreeShare :=
  match h with
  | 0 => fullShare.left
  | 1 => fullShare.right.left
  | 2 => fullShare.right.right

/-! ## The schedule -/

/-- A slot at unknown contents. -/
def free (c : Dev nD) (s : Slot) : sProp 𝕄 := iprop(∃ f : Buf (Elt F) ((slotM s).view.loc (c : Thread nD τ)), (slotM s).view.loc (c : Thread nD τ) ↦[(slotM s).view.set]{fullShare} f)
/-- The send buffer of half `s.2`, holding what is sent, at the share lent to hop `s.1`. -/
def held (c : Dev nD) (s : Slot) : sProp 𝕄 := owns (c : Thread nD τ) (sendM s.2) (lent s.1) (part m c s.2)
/-- Slot `s` of device `c`, holding the partial result of the device that it receives from. -/
def landed (c : Dev nD) (s : Slot) : sProp 𝕄 := owns (c : Thread nD τ) (slotM s) fullShare (part m ((hop s.1).symm c) s.2)

/-- A free slot may be kept in an invariant; -/
instance free_storable (c : Dev nD) (s : Slot) : BI.Storable (upEmb : UEmb _ 𝕄) (free (F := F) c s) := by unfold free; infer_instance
/-- so may the share of a send buffer that is lent to a copy; -/
instance held_storable (c : Dev nD) (s : Slot) : BI.Storable (upEmb : UEmb _ 𝕄) (held m c s) := by unfold held; infer_instance
/-- so may a slot with what landed in it; -/
instance landed_storable (c : Dev nD) (s : Slot) : BI.Storable (upEmb : UEmb _ 𝕄) (landed m c s) := by unfold landed; infer_instance

/-- What the device at hop `h` hands over with its signal: the two slots that copies along `h` will be written into. -/
def grant (c : Dev nD) (h : Fin 3) : sProp 𝕄 := iprop(free (hop h c) (h, 0) ∗ free (hop h c) (h, 1))
/-- What a signal grants may be kept in an invariant. -/
instance grant_storable (c : Dev nD) (h : Fin 3) : BI.Storable (upEmb : UEmb _ 𝕄) (grant (F := F) c h) := by unfold grant; infer_instance

/-- A semaphore's role in the exchange. -/
inductive Role
  | gate
  | out (s : Slot)
  | inn (s : Slot)
  | none

/-- The role, read off the semaphore's number: 5 to 10 are the outgoing cells, 11 to 16 the incoming ones. -/
def role (sm : SemLoc sig) : Role :=
  match sm with
  | .reg q => if q = gateS then .gate else .none
  | .dma q =>
    if h : 5 ≤ q.val ∧ q.val < 11 then .out (⟨(q.val - 5) / 2, by omega⟩, ⟨(q.val - 5) % 2, by omega⟩)
    else if h : 11 ≤ q.val ∧ q.val < 17 then .inn (⟨(q.val - 11) / 2, by omega⟩, ⟨(q.val - 11) % 2, by omega⟩)
    else .none

/-- The barrier semaphore plays the gate. -/
theorem role_gate : role (.reg gateS) = .gate := by dsimp only [role]; exact if_pos rfl
/-- A send semaphore plays its slot's send cell. -/
theorem role_out (s : Slot) : role (.dma (outS s)) = .out s := by
  obtain ⟨h, k⟩ := s
  fin_cases h <;> fin_cases k <;> rfl
/-- A receive semaphore plays its slot's receive cell. -/
theorem role_inn (s : Slot) : role (.dma (innS s)) = .inn s := by
  obtain ⟨h, k⟩ := s
  fin_cases h <;> fin_cases k <;> rfl

/-- One round. A gate has a duty of one unit for each hop `h`, paid by the device at hop `h`; a copy's two cells have one
    duty each, of the copy's credit. -/
def plan : Rounds.Schedule (GSem nD τ sig) (Fin 3) 𝕄 where
  duties g r := if r = 0 ∧ g.1.2 = .tc then (match role g.2 with | .gate => Finset.univ | .out _ => {0} | .inn _ => {0} | .none => ∅) else ∅
  unitless _ := False
  amount g _ _ := match role g.2 with | .gate => 1 | _ => N
  payload g _ d := match role g.2 with
    | .gate => grant g.1.1 d
    | .out s => held m g.1.1 s
    | .inn s => landed m g.1.1 s
    | .none => iprop(emp)
  amount_pos g _ _ _ := by
    cases role g.2 <;> first | exact Nat.one_pos | exact N_pos

/-- Whatever the plan pays may be kept in an invariant. -/
instance plan_storable (g : GSem nD τ sig) (r : ℕ) (d : Fin 3) : BI.Storable (upEmb : UEmb _ 𝕄) ((plan m).payload g r d) := by
  show BI.Storable upEmb (match role g.2 with
    | .gate => grant g.1.1 d | .out s => held m g.1.1 s | .inn s => landed m g.1.1 s | .none => iprop(emp))
  cases role g.2 <;> infer_instance

section Tables
variable (c : Dev nD) (s : Slot) (d : Fin 3)

/-- The gate is paid by the three other devices. -/
theorem duties_gate : (plan m).duties (gate c) 0 = Finset.univ := by dsimp only [plan]; rw [if_pos ⟨rfl, rfl⟩, role_gate]
/-- A send cell is paid once. -/
theorem duties_out : (plan m).duties (out c s) 0 = {0} := by dsimp only [plan]; rw [if_pos ⟨rfl, rfl⟩, role_out]
/-- A receive cell is paid once. -/
theorem duties_inn : (plan m).duties (inn c s) 0 = {0} := by dsimp only [plan]; rw [if_pos ⟨rfl, rfl⟩, role_inn]
/-- After round 0 nothing is paid. -/
theorem duties_later (g : GSem nD τ sig) : ∀ r, 1 ≤ r → (plan m).duties g r = ∅ :=
  fun r hr => by dsimp only [plan]; exact if_neg fun h => by omega

/-- A signal is one unit. -/
theorem amount_gate : (plan m).amount (gate c) 0 d = 1 := by dsimp only [plan]; rw [role_gate]
/-- A copy pays the send cell `N`. -/
theorem amount_out : (plan m).amount (out c s) 0 d = N := by dsimp only [plan]; rw [role_out]
/-- A copy pays the receive cell `N`. -/
theorem amount_inn : (plan m).amount (inn c s) 0 d = N := by dsimp only [plan]; rw [role_inn]

/-- A signal grants the signaller's slots. -/
theorem payload_gate : (plan m).payload (gate c) 0 d = grant c d := by dsimp only [plan]; rw [role_gate]
/-- A copy that has been read gives its share of the send buffer back. -/
theorem payload_out : (plan m).payload (out c s) 0 d = held m c s := by dsimp only [plan]; rw [role_out]
/-- A copy that has landed hands over the slot with its contents. -/
theorem payload_inn : (plan m).payload (inn c s) 0 d = landed m c s := by dsimp only [plan]; rw [role_inn]

/-- Three units open the gate. -/
theorem expect_gate : (plan m).expect (gate c) 0 = 3 := by
  unfold Schedule.expect Schedule.amountOf
  rw [duties_gate, Finset.sum_congr rfl fun d _ => amount_gate m c d]; rfl
/-- A send cell is complete at `N` units. -/
theorem expect_out : (plan m).expect (out c s) 0 = N := by
  unfold Schedule.expect Schedule.amountOf; rw [duties_out, Finset.sum_singleton, amount_out]
/-- A receive cell is complete at `N` units. -/
theorem expect_inn : (plan m).expect (inn c s) 0 = N := by
  unfold Schedule.expect Schedule.amountOf; rw [duties_inn, Finset.sum_singleton, amount_inn]

end Tables

/-! ## Debts and levels -/

/-- What the copy along `s` from device `c` will credit at its target. -/
def due (c : Dev nD) (s : Slot) : CellTallies nD τ sig Unit := tallyAt (inn (hop s.1 c) s) () N
/-- The signal that carries the grant of hop `h` from device `c`. -/
def sig1 (c : Dev nD) (h : Fin 3) : CellTallies nD τ sig Unit := tallyAt (gate ((hop h).symm c)) () 1

/-- What device `c` owes while the copies in `S` and the signals in `B` are still to come. -/
def debt (c : Dev nD) (S : Finset Slot) (B : Finset (Fin 3)) : CellTallies nD τ sig Unit := (∑ s ∈ S, due c s) + ∑ h ∈ B, sig1 c h

/-- What a signal pays, taken out of the debt. -/
theorem debt_signal (c : Dev nD) (S : Finset Slot) {B : Finset (Fin 3)} {h : Fin 3} (hh : h ∈ B) :
    debt c S B = debt c S (B.erase h) + tallyAt (gate ((hop h).symm c)) () 1 := by
  unfold debt; rw [← Finset.sum_erase_add B _ hh, add_assoc]; rfl
/-- What a copy pays, taken out of the debt. -/
theorem debt_copy (c : Dev nD) {S : Finset Slot} {s : Slot} (hs : s ∈ S) :
    debt c S ∅ = debt c (S.erase s) ∅ + tallyAt (inn (hop s.1 c) s) () N := by
  unfold debt; rw [← Finset.sum_erase_add S _ hs, Finset.sum_empty, add_zero, add_zero]; rfl
/-- With every signal sent and every copy started nothing is owed. -/
theorem debt_none (c : Dev nD) : debt c ∅ ∅ = 0 := by unfold debt; rw [Finset.sum_empty, Finset.sum_empty, add_zero]

/-- A cell that is owed something by a family is owed it by a member. -/
theorem sum_tally_pos {I : Type} [DecidableEq I] (S : Finset I) (f : I → GSem nD τ sig) (n : I → ℕ) {g : GSem nD τ sig} {u : Unit}
    (h : 0 < (∑ i ∈ S, tallyAt (f i) () (n i) : CellTallies nD τ sig Unit) g u) : ∃ i ∈ S, g = f i := by
  induction S using Finset.induction_on with
  | empty => exact absurd h (Nat.lt_irrefl 0)
  | insert i S hi ih =>
    rw [Finset.sum_insert hi, Pi.add_apply, Finsupp.add_apply, tallyAt_apply] at h
    by_cases e : g = f i ∧ u = ()
    · exact ⟨i, Finset.mem_insert_self _ _, e.1⟩
    · rw [if_neg e, Nat.zero_add] at h
      obtain ⟨j, hj, e⟩ := ih h
      exact ⟨j, Finset.mem_insert_of_mem hj, e⟩

/-- A cell that device `c` owes to is an incoming cell of another device, or a gate whose signal is still to come. -/
theorem debt_pos {c : Dev nD} {S : Finset Slot} {B : Finset (Fin 3)} {g : GSem nD τ sig} {u : Unit} (h : 0 < debt c S B g u) :
    (∃ s ∈ S, g = inn (hop s.1 c) s) ∨ (∃ h ∈ B, g = gate ((hop h).symm c)) := by
  unfold debt at h
  rw [Pi.add_apply, Finsupp.add_apply] at h
  rcases Nat.eq_zero_or_pos ((∑ s ∈ S, due c s) g u) with e | e
  · rw [e, Nat.zero_add] at h
    exact .inr (sum_tally_pos B (fun h => gate ((hop h).symm c)) (fun _ => 1) h)
  · exact .inl (sum_tally_pos S (fun s => inn (hop s.1 c) s) (fun _ => N) e)

/-- The cells that have a level: those of TensorCores. -/
def L (g : GSem nD τ sig) : Finset Unit := if g.1.2 = .tc then {()} else ∅
/-- The order in which waits may depend on one another: incoming cells above gates, everything else below both. -/
def lv (g : GSem nD τ sig) (_ : Unit) : ℕ := match role g.2 with | .inn _ => 2 | .gate => 1 | _ => 0

/-- No other core's cell has one. -/
theorem L_of_ne (g : GSem nD τ sig) (h : g.1.2 ≠ .tc) : L g = ∅ := if_neg h
/-- Every cell of a TensorCore has one. -/
theorem mem_L (c : Dev nD) (sm : SemLoc sig) : () ∈ L ((c : Thread nD τ), sm) := by rw [L, if_pos rfl]; exact Finset.mem_singleton_self _

/-- The receive cells' level is 2, -/
theorem lv_inn (c : Dev nD) (s : Slot) (u : Unit) : lv (inn c s) u = 2 := by dsimp only [lv]; rw [role_inn]
/-- the gate's is 1. -/
theorem lv_gate (c : Dev nD) (u : Unit) : lv (gate c) u = 1 := by dsimp only [lv]; rw [role_gate]

/-- A device may wait on one of its cells while everything that it owes lies at a higher level. -/
theorem may_wait (c : Dev nD) (sm : SemLoc sig) (S : Finset Slot) (B : Finset (Fin 3)) (n : ℕ) (hn : lv ((c : Thread nD τ), sm) () ≤ n)
    (hS : n < 2) (hB : B = ∅ ∨ n < 1) : (levAts L lv : sProp 𝕄) ⊢ MayWait (c : Thread nD τ) sm () (debt c S B) :=
  MayOwe.of_cut (L := L) (lev := lv) n
    (fun p hp => by rw [Finset.mem_singleton.mp hp]; exact mem_L c sm)
    (fun g u hg => by rcases debt_pos hg with ⟨s, -, rfl⟩ | ⟨h, -, rfl⟩ <;> exact mem_L _ _)
    (fun p hp => by rw [Finset.mem_singleton.mp hp]; exact hn)
    (fun g u hg => by
      rcases debt_pos hg with ⟨s, -, rfl⟩ | ⟨h, hh, rfl⟩
      · rw [lv_inn]; exact hS
      · rcases hB with rfl | hB
        · exact absurd hh (Finset.notMem_empty h)
        · rw [lv_gate]; exact hB)

end Cert.Exchange

end
-- ==== Proof.Steps.lean ====
/-
# One rule for each kind of statement of the kernel

A statement of the kernel that touches the exchange is one of: a signal with a grant, the wait at the barrier, an outgoing
copy, the wait for an outgoing copy's source, the wait for an incoming copy. Each has one rule here, for any hop and half.
Then come the rules for the local copies of the inputs and for loads and stores, in terms of what a memref holds.
-/
module

public import proofs.«01_k».proof.Proof.Protocol
public import Idealize.ShloMosaic.Lib.VecWindow
public import Idealize.ShloMosaic.Lib.Pointwise.Index
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop needs a variant. -/
abbrev 𝒱₀ : Variants := Variants.none

/-! ## The cells by name -/

/-- A device's cells: the gate, and for each copy the outgoing (`false`) and the incoming (`true`) cell. -/
abbrev Cell : Type := Option (Bool × Slot)

/-- Where a cell is. -/
def cellAt (ck : Dev nD × Cell) : GSem nD τ sig :=
  match ck.2 with
  | none => gate ck.1
  | some (false, s) => out ck.1 s
  | some (true, s) => inn ck.1 s

/-- What every device knows: the invariant of each cell of each device, and that its round 0 is open. -/
def records (K : Dev nD × Cell → ℕ) : sProp 𝕄 :=
  iprop((bigSep Finset.univ fun ck => cellInv EX (plan m) (K ck) (cellAt ck)) ∗ bigSep Finset.univ fun ck => reached EX (cellAt ck) 0)

/-- What every device knows stays known. -/
instance records_persistent (K : Dev nD × Cell → ℕ) : BI.Persistent (records m K) := by unfold records; infer_instance

/-- It says so of each cell. -/
theorem records_at (K : Dev nD × Cell → ℕ) (ck : Dev nD × Cell) :
    records m K ⊢ iprop(cellInv EX (plan m) (K ck) (cellAt ck) ∗ reached EX (cellAt ck) 0) :=
  BI.sep_mono (bigSep_elim (Finset.mem_univ ck)) (bigSep_elim (Finset.mem_univ ck))

/-- What a device still owes, whatever it has waited for so far. -/
def owing (c : Dev nD) (S : Finset Slot) (B : Finset (Fin 3)) : sProp 𝕄 := iprop(∃ W : Waits sig Unit, owes (c : Thread nD τ) (debt c S B) W)

/-- Two blocks of 128 rows, one above the other. -/
def glue {V : Type} (a b : S128x256.Idx → V) : S256x256.Idx → V := fun i =>
  if h : (i 0).val < 128 then a (ix2 ⟨(i 0).val, h⟩ (i 1)) else b (ix2 ⟨(i 0).val - 128, by have : (i 0).val < 256 := (i 0).isLt; omega⟩ (i 1))

/-- A send buffer held outright is the three shares of it that are lent to its copies. -/
theorem lend (c : Dev nD) (k : Half) :
    (owns (c : Thread nD τ) (sendM k) fullShare (part m c k) : sProp 𝕄) = iprop(held m c (0, k) ∗ held m c (1, k) ∗ held m c (2, k)) := by
  have two : ∀ (b : Ref sig .tc) (f : Buf (Elt F) ((c : Thread nD τ).loc b)),
      ((((c : Thread nD τ).loc b) ↦{fullShare} f) : sProp 𝕄)
        = iprop((((c : Thread nD τ).loc b) ↦{fullShare.left} f) ∗ (((c : Thread nD τ).loc b) ↦{fullShare.right.left} f) ∗ (((c : Thread nD τ).loc b) ↦{fullShare.right.right} f)) := by
    intro b f
    have e (q : PosShare TreeShare) : (((c : Thread nD τ).loc b ↦{q} f) : sProp 𝕄) = iprop((((c : Thread nD τ).loc b) ↦{q.left} f) ∗ (((c : Thread nD τ).loc b) ↦{q.right} f)) :=
      Entails.antisymm (pointsTo_share (PosShare.mem_left_op_right q)).1 (pointsTo_share (PosShare.mem_left_op_right q)).2
    rw [e fullShare, e fullShare.right]
  unfold held
  match k with
  | 0 => simp only [sendM, owns_whole, lent]; exact two _ _
  | 1 => simp only [sendM, owns_whole, lent]; exact two _ _

section Steps

variable (K : Dev nD × Cell → ℕ) (c : Dev nD)

/-! ## The exchange -/

/-- The signal to the device `h + 1` places back, granting it slots `h` of both landing buffers. -/
theorem step_signal (h : Fin 3) (S : Finset Slot) {B : Finset (Fin 3)} (hB : h ∈ B) {n : Dev nD} (hn : n = (hop h).symm c)
    {w : Int} (hw : w = ((1 : ℕ) : Int)) {α : Type} {Q : α → sProp 𝕄} {k : PUnit → Prog (TpuEff nD τ sig (Elt F) Λ₀ .tc) α} :
    iprop(records m K ∗ owing c S B ∗ dutyTok EX (gate ((hop h).symm c)) 0 h ∗ free c (h, 0) ∗ free c (h, 1))
      ⊢ iprop((owing c S (B.erase h) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) gateS w) k) Q) := by
  subst hn hw
  unfold owing
  iintro ⟨#HR, ⟨%W, HO⟩, Ht, Hf⟩ Hk
  ihave HI := (records_at m K ((hop h).symm c, none)) $$ HR
  icases HI with ⟨#HI, #Hr⟩
  iapply (Rounds.wp_signal 𝒱₀ EX (plan m) (c : Thread nD τ) none (dst := ((hop h).symm c : Thread nD τ)) (κ := K ((hop h).symm c, none))
      (d := h) (by rw [duties_gate]; exact Finset.mem_univ _) (amount_gate m _ h) () (debt c S (B.erase h)) (debt_signal c S hB))
    $$ [HO Ht Hf]
  · isplitr; · iexact HI
    isplitl [HO]; · iexact HO
    isplitl [Ht]; · iexact Ht
    isplitl [Hf]
    · rw [payload_gate]; unfold grant; rw [Equiv.apply_symm_apply]; iexact Hf
    iexact Hr
  iintro HO
  iapply Hk
  iexists W; iexact HO

/-- The wait at the barrier for the three signals, while the six copies are still owed: the slots that this device's copies
    will be written into come with them, and the gate closes. -/
theorem step_gate (S : Finset Slot) {w : Int} (hw : w = ((3 : ℕ) : Int))
    {α : Type} {Q : α → sProp 𝕄} {k : PUnit → Prog (TpuEff nD τ sig (Elt F) Λ₀ .tc) α} :
    iprop(records m K ∗ levAts L lv ∗ owing c S ∅ ∗ cred (tallyAt (gate c) () 3) ∗ atPos EX (gate c) 0 ∅ 0)
      ⊢ iprop(((owing c S ∅ ∗ semVal (gate c) 0 ∗ grant c 0 ∗ grant c 1 ∗ grant c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait gateS w) k) Q) := by
  subst hw
  unfold owing
  iintro ⟨#HR, #Hlev, ⟨%W, HO⟩, Hc, Ha⟩ Hk
  ihave HI := (records_at m K (c, none)) $$ HR
  icases HI with ⟨#HI, -⟩
  iapply (Rounds.wp_wait_rest_token 𝒱₀ EX (plan m) (c : Thread nD τ) none (κ := K (c, none))
      (wpE_semWait_eq 𝒱₀ (c : Thread nD τ) none Set.univ) (Set.mem_univ _) () (O := debt c S ∅) (W := W) (R := 0) (m := 0) (T := ∅)
      (by rw [expect_gate])) $$ [Hc HO Ha]
  · isplitr; · iexact HI
    isplitl [Hc]; · iexact Hc
    isplitl [HO]; · iexact HO
    isplitr
    · iapply (may_wait (F := F) c (.reg gateS) S ∅ 1 (by rw [lv_gate]) (by decide) (.inl rfl)); iexact Hlev
    iexact Ha
  iintro ⟨HO, Ha, -, Hp⟩
  imod (Rounds.cell_close EX (plan m) (Set.mem_univ (K (c, none))) (fun h => h) (R := 0 + 1) (duties_later m (gate c))) $$ [Ha] with Hz
  · isplitr; · iexact HI
    iexact Ha
  iapply Hk
  isplitl [HO]; · iexists _; iexact HO
  isplitl [Hz]; · iexact Hz
  ihave Hp := (Entails.of_eq (show bigSep ((plan m).duties (gate c) 0 \ ∅) (fun d => (plan m).payload (gate c) 0 d) = iprop(grant c 0 ∗ grant c 1 ∗ grant c 2) from by
    rw [duties_gate, Finset.sdiff_empty, bigSep_congr fun d _ => payload_gate m c d]
    exact bigSep_univ_eq_bigSepL [0, 1, 2] (by decide) (by decide) _)) $$ Hp
  iexact Hp

/-- An outgoing copy: it takes the lent share of the send buffer and the slot granted by the target, and leaves the promise
    of the source back. -/
theorem step_copy (s : Slot) {S : Finset Slot} (hs : s ∈ S) {n : Dev nD} (hn : n = hop s.1 c)
    {src dst : Memref sig .tc .vmem S128x256 .bf16} (esrc : src = sendM s.2) (edst : dst = slotM s)
    {so si : DmaSem sig} (eo : so = outS s) (ei : si = innS s)
    {hsc : (dst : Memref sig (Dev.tc n : Thread nD τ).2.kind .vmem S128x256 .bf16).view.ref.isScScratch = false}
    {hsrc : src.view.WordExact} {hdst : dst.view.WordExact}
    {hsem : DmaTarget.Typed .vmem (.dma si) (.remote (Dev.tc n : Thread nD τ) dst (.dma so) hsc)}
    {α : Type} {Q : α → sProp 𝕄} {k : PUnit → Prog (TpuEff nD τ sig (Elt F) Λ₀ .tc) α} :
    iprop(records m K ∗ owing c S ∅ ∗ (dutyTok EX (out c s) 0 0 ∗ dutyTok EX (inn (hop s.1 c) s) 0 0) ∗ held m c s ∗ free (hop s.1 c) s)
      ⊢ iprop(((owing c (S.erase s) ∅ ∗ cred (tallyAt (out c s) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma so) hsc) (.dma si) hsrc hdst hsem) k) Q) := by
  subst hn esrc edst eo ei
  unfold owing held free owns
  iintro ⟨#HR, ⟨%W, HO⟩, ⟨Hto, Hti⟩, ⟨%fs, %hfs, Hs⟩, ⟨%fd, Hd⟩⟩ Hk
  ihave HI := (records_at m K (c, some (false, s))) $$ HR
  icases HI with ⟨#HIo, #Hro⟩
  ihave HI := (records_at m K (hop s.1 c, some (true, s))) $$ HR
  icases HI with ⟨#HIi, #Hri⟩
  have hout : (View.loc (c : Thread nD τ) (sendM s.2).view ↦[(sendM s.2).view.set]{lent s.1} fs : sProp 𝕄) ⊢ (plan m).payload (out c s) 0 0 := by
    rw [payload_out]; unfold held owns
    iintro H; iexists fs; isplitr; · ipureintro; exact hfs
    iexact H
  have hinn : (View.loc (hop s.1 c : Thread nD τ) (slotM s).view ↦[(slotM s).view.set]{fullShare}
      (slotM s).view.write (Elt F) fd ((sendM s.2).view.read (Elt F) fs) Finset.univ : sProp 𝕄) ⊢ (plan m).payload (inn (hop s.1 c) s) 0 0 := by
    rw [payload_inn]; unfold landed owns
    iintro H
    iexists ((slotM s).view.write (Elt F) fd ((sendM s.2).view.read (Elt F) fs) Finset.univ)
    isplitr
    · ipureintro; rw [View.read_write_univ, Equiv.symm_apply_apply]; exact hfs
    iexact H
  iapply (Rounds.wp_send_pointsTo 𝒱₀ EX (plan m) (c : Thread nD τ) none (c' := (hop s.1 c).tc) (src := sendM s.2) (dst := slotM s) (sS := .dma (outS s)) (sem := .dma (innS s))
      (κ₁ := K (c, some (false, s))) (κ₂ := K (hop s.1 c, some (true, s)))
      (q := lent s.1) (fs := fs) (fd := fd) (r₁ := 0) (r₂ := 0) (d₁ := 0) (d₂ := 0)
      (by rw [duties_out]; exact Finset.mem_singleton_self _) (by rw [duties_inn]; exact Finset.mem_singleton_self _)
      () () N (credit_slot s) (amount_out m c s 0) (amount_inn m (hop s.1 c) s 0) (debt c (S.erase s) ∅) (debt_copy c hs) (W := W) hout hinn) $$ [Hs Hd HO Hto Hti]
  · isplitr; · iexact HIo
    isplitr; · iexact HIi
    isplitl [Hs]; · iexact Hs
    isplitl [Hd]; · iexact Hd
    isplitl [HO]; · iexact HO
    isplitl [Hto]; · iexact Hto
    isplitr; · iexact Hro
    isplitl [Hti]; · iexact Hti
    iexact Hri
  iintro ⟨Hc, HO⟩
  iapply Hk
  isplitl [HO]; · iexists W; iexact HO
  iexact Hc

/-- The wait for an outgoing copy's source: the lent share comes back, and the cell closes. -/
theorem step_sent (s : Slot) {so : DmaSem sig} (eo : so = outS s)
    {src dst : Memref sig .tc .vmem S128x256 .bf16} (hN : dst.view.dmaCredit = N) {hsrc : src.view.WordExact} {hdst : dst.view.WordExact}
    {α : Type} {Q : α → sProp 𝕄} {k : PUnit → Prog (TpuEff nD τ sig (Elt F) Λ₀ .tc) α} :
    iprop(records m K ∗ owing c ∅ ∅ ∗ cred (tallyAt (out c s) () N) ∗ atPos EX (out c s) 0 ∅ 0)
      ⊢ iprop(((owing c ∅ ∅ ∗ semVal (out c s) 0 ∗ held m c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 so src dst hsrc hdst) k) Q) := by
  subst eo
  unfold owing
  iintro ⟨#HR, ⟨%W, HO⟩, Hc, Ha⟩ Hk
  ihave HI := (records_at m K (c, some (false, s))) $$ HR
  icases HI with ⟨#HI, -⟩
  iapply (Rounds.wp_wait_rest_token 𝒱₀ EX (plan m) (c : Thread nD τ) none (κ := K (c, some (false, s)))
      (wpE_waitDma2_eq 𝒱₀ (c : Thread nD τ) none Set.univ) (Set.mem_univ _) () (O := debt c ∅ ∅) (W := W) (R := 0) (m := 0) (T := ∅)
      (by rw [Nat.zero_add, expect_out, hN])) $$ [Hc HO Ha]
  · isplitr; · iexact HI
    isplitl [Hc]; · rw [hN]; iexact Hc
    isplitl [HO]; · iexact HO
    isplitr; · rw [debt_none, MayWait_zero]; iempintro
    iexact Ha
  iintro ⟨HO, Ha, -, Hp⟩
  imod (Rounds.cell_close EX (plan m) (Set.mem_univ (K (c, some (false, s)))) (fun h => h) (R := 0 + 1) (duties_later m (out c s))) $$ [Ha] with Hz
  · isplitr; · iexact HI
    iexact Ha
  iapply Hk
  isplitl [HO]; · iexists _; iexact HO
  isplitl [Hz]; · iexact Hz
  ihave Hp := (Entails.of_eq (show bigSep ((plan m).duties (out c s) 0 \ ∅) (fun d => (plan m).payload (out c s) 0 d) = held m c s from by
    rw [duties_out, Finset.sdiff_empty, bigSep_singleton, payload_out])) $$ Hp
  iexact Hp

/-- The wait for an incoming copy: the slot holds the sender's partial result, and the cell closes. -/
theorem step_landed (s : Slot) {si : DmaSem sig} (ei : si = innS s)
    {src dst : Memref sig .tc .vmem S128x256 .bf16} (hN : dst.view.dmaCredit = N) {hsrc : src.view.WordExact} {hdst : dst.view.WordExact}
    {α : Type} {Q : α → sProp 𝕄} {k : PUnit → Prog (TpuEff nD τ sig (Elt F) Λ₀ .tc) α} :
    iprop(records m K ∗ owing c ∅ ∅ ∗ cred (tallyAt (inn c s) () N) ∗ atPos EX (inn c s) 0 ∅ 0)
      ⊢ iprop(((owing c ∅ ∅ ∗ semVal (inn c s) 0 ∗ landed m c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 si src dst hsrc hdst) k) Q) := by
  subst ei
  unfold owing
  iintro ⟨#HR, ⟨%W, HO⟩, Hc, Ha⟩ Hk
  ihave HI := (records_at m K (c, some (true, s))) $$ HR
  icases HI with ⟨#HI, -⟩
  iapply (Rounds.wp_wait_rest_token 𝒱₀ EX (plan m) (c : Thread nD τ) none (κ := K (c, some (true, s)))
      (wpE_waitDma2_eq 𝒱₀ (c : Thread nD τ) none Set.univ) (Set.mem_univ _) () (O := debt c ∅ ∅) (W := W) (R := 0) (m := 0) (T := ∅)
      (by rw [Nat.zero_add, expect_inn, hN])) $$ [Hc HO Ha]
  · isplitr; · iexact HI
    isplitl [Hc]; · rw [hN]; iexact Hc
    isplitl [HO]; · iexact HO
    isplitr; · rw [debt_none, MayWait_zero]; iempintro
    iexact Ha
  iintro ⟨HO, Ha, -, Hp⟩
  imod (Rounds.cell_close EX (plan m) (Set.mem_univ (K (c, some (true, s)))) (fun h => h) (R := 0 + 1) (duties_later m (inn c s))) $$ [Ha] with Hz
  · isplitr; · iexact HI
    iexact Ha
  iapply Hk
  isplitl [HO]; · iexists _; iexact HO
  isplitl [Hz]; · iexact Hz
  ihave Hp := (Entails.of_eq (show bigSep ((plan m).duties (inn c s) 0 \ ∅) (fun d => (plan m).payload (inn c s) 0 d) = landed m c s from by
    rw [duties_inn, Finset.sdiff_empty, bigSep_singleton, payload_inn])) $$ Hp
  iexact Hp

/-! ## The local copies of the inputs -/

/-- A local copy under way on `sem`: on arrival `dst` holds what `src` holds. -/
def coming (sem : DmaSem sig) {sp sp' : Space} {s : Shape} {e : EltTy} (src : Memref sig .tc sp s e) (dst : Memref sig .tc sp' s e)
    (X : s.Idx → Elt F e) : sProp 𝕄 :=
  Transfers.Flight countersEmb (c : Thread nD τ) (.dma sem) () dst.view.dmaCredit iprop(owns (c : Thread nD τ) dst fullShare X ∗ owns (c : Thread nD τ) src fullShare X)

/-- A local copy is issued on a semaphore at zero. -/
theorem step_fetch {sp sp' : Space} {s : Shape} {e : EltTy} {src : Memref sig .tc sp s e} {dst : Memref sig .tc sp' s e} {sem : DmaSem sig}
    (hn : 0 < dst.view.dmaCredit) (X : s.Idx → Elt F e)
    {hsrc : src.view.WordExact} {hdst : dst.view.WordExact} {hsem : DmaTarget.Typed (nD := nD) (τ := τ) (p := .tc) sp (.dma sem) (.here dst)}
    {α : Type} {Q : α → sProp 𝕄} {k : PUnit → Prog (TpuEff nD τ sig (Elt F) Λ₀ .tc) α} :
    iprop(owns (c : Thread nD τ) src fullShare X ∗ (∃ Y, owns (c : Thread nD τ) dst fullShare Y) ∗ semVal ((c : Thread nD τ), .dma sem) 0)
      ⊢ iprop((coming c sem src dst X -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sem) hsrc hdst hsem) k) Q) := by
  unfold owns
  iintro ⟨⟨%fs, %hfs, Hs⟩, ⟨%Y, %fd, %hfd, Hd⟩, Hz⟩ Hk
  iapply (Transfers.wp_dmaLocal countersEmb 𝒱₀ (c : Thread nD τ) none () dst.view.dmaCredit rfl hn subset_rfl) $$ [Hs Hd Hz]
  · isplitl [Hs]; · iexact Hs
    isplitl [Hd]; · iexact Hd
    iexact Hz
  iintro Hf
  iapply Hk
  unfold coming
  have hmono : iprop((View.loc (c : Thread nD τ) dst.view ↦[dst.view.set]{fullShare} (dst.view.write (Elt F) fd (src.view.read (Elt F) fs) Finset.univ))
      ∗ (View.loc (c : Thread nD τ) src.view ↦[src.view.set]{fullShare} fs) : sProp 𝕄)
      ⊢ iprop(owns (c : Thread nD τ) dst fullShare X ∗ owns (c : Thread nD τ) src fullShare X) := by
    unfold owns
    iintro ⟨Hd, Hs⟩
    isplitl [Hd]
    · iexists (dst.view.write (Elt F) fd (src.view.read (Elt F) fs) Finset.univ); isplitr
      · ipureintro; rw [View.read_write_univ]; exact hfs
      iexact Hd
    iexists fs; isplitr; · ipureintro; exact hfs
    iexact Hs
  iapply (Transfers.Flight_mono countersEmb (c : Thread nD τ) hmono)
  iexact Hf

/-- The wait for a local copy, on a semaphore outside the exchange, while copies to other devices are owed. -/
theorem step_arrived {sp sp' : Space} {s : Shape} {e : EltTy} {src : Memref sig .tc sp s e} {dst : Memref sig .tc sp' s e} {sem : DmaSem sig}
    (hr : role (.dma sem) = .none) (S : Finset Slot) (X : s.Idx → Elt F e) {hsrc : src.view.WordExact} {hdst : dst.view.WordExact}
    {α : Type} {Q : α → sProp 𝕄} {k : PUnit → Prog (TpuEff nD τ sig (Elt F) Λ₀ .tc) α} :
    iprop(levAts L lv ∗ owing c S ∅ ∗ coming c sem src dst X)
      ⊢ iprop(((owing c S ∅ ∗ semVal ((c : Thread nD τ), .dma sem) 0 ∗ owns (c : Thread nD τ) src fullShare X ∗ owns (c : Thread nD τ) dst fullShare X)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  unfold owing coming
  iintro ⟨#Hlev, ⟨%W, HO⟩, Hf⟩ Hk
  iapply (Transfers.wp_waitLocalO countersEmb 𝒱₀ (c : Thread nD τ) none () rfl (O := debt c S ∅) (W := W)) $$ [Hf HO]
  · isplitl [Hf]; · iexact Hf
    isplitl [HO]; · iexact HO
    iapply (may_wait (F := F) c (.dma sem) S ∅ 0 (by dsimp only [lv]; rw [hr]) (by decide) (.inl rfl)); iexact Hlev
  iintro ⟨⟨Hd, Hs⟩, Hz, HO⟩
  iapply Hk
  isplitl [HO]; · iexists _; iexact HO
  isplitl [Hz]; · iexact Hz
  isplitl [Hs]; · iexact Hs
  iexact Hd

/-! ## Loads and stores -/

/-- A load of all of a memref gives what it holds. -/
theorem step_load {cs : CoreSpace} {s : Shape} {e : EltTy} {M : Memref sig .tc cs s e} {off : Fin s.rank → ℕ} {inb : ∀ a, off a + s.size a ≤ s.size a}
    {q : PosShare TreeShare} {X : s.Idx → Elt F e} {hl : M.view.LoadsAt (Rect.unit off s.size inb).toLoadRect}
    {α : Type} {Q : α → sProp 𝕄} {k : (s.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit off s.size inb).toLoadRect hl) k) Q) := by
  unfold owns
  iintro ⟨%f, %hf, H⟩ Hk
  subst hf
  iapply (wp_load 𝒱₀ (c : Thread nD τ) none Set.univ (m := M) (M.view.setOn_subset_set _)) $$ H
  iintro H
  rw [View.readAt_full]
  iapply Hk
  iexists f; isplitr; · ipureintro; rfl
  iexact H

/-- A load of a part of a memref whose value is not used. -/
theorem step_load_any {cs : CoreSpace} {s : Shape} {e : EltTy} {M : Memref sig .tc cs s e} {r : LoadRect s}
    {q : PosShare TreeShare} {X : s.Idx → Elt F e} {hl : M.view.LoadsAt r}
    {α : Type} {Q : α → sProp 𝕄} {k : (r.shape.Idx → Elt F e) → Prog (TpuEff nD τ sig (Elt F) Λ₀ .tc) α} :
    (owns (c : Thread nD τ) M q X : sProp 𝕄)
      ⊢ iprop((∀ v, owns (c : Thread nD τ) M q X -∗ wp frame (wpE (defs₀ (F := F)) 𝒱₀ (c : Thread nD τ) none) Set.univ (k v) Q)
          -∗ wp frame (wpE (defs₀ (F := F)) 𝒱₀ (c : Thread nD τ) none) Set.univ (.op (.load M r hl) k) Q) := by
  unfold owns
  iintro ⟨%f, %hf, H⟩ Hk
  iapply (wp_load 𝒱₀ (c : Thread nD τ) none Set.univ (m := M) (M.view.setOn_subset_set _)) $$ H
  iintro H
  iapply Hk
  iexists f; isplitr; · ipureintro; exact hf
  iexact H

/-- A store to a rectangle of a memref: outside it the memref holds what it held, in it the stored vector. -/
theorem step_store {cs : CoreSpace} {s : Shape} {e : EltTy} {M : Memref sig .tc cs s e} {r : Rect s} {w : r.shape.Idx → Elt F e}
    {X Y : s.Idx → Elt F e} (hin : ∀ x, Y (r.emb x) = w x) (hout : ∀ y, y ∉ r.set → Y y = X y)
    {α : Type} {Q : α → sProp 𝕄} {k : PUnit → Prog (TpuEff nD τ sig (Elt F) Λ₀ .tc) α} {hx hm} :
    (owns (c : Thread nD τ) M fullShare X : sProp 𝕄)
      ⊢ iprop((owns (c : Thread nD τ) M fullShare Y -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (Mk := Finset.univ) (View.set_slice_subset _ r)) $$ H
  iintro H
  iapply Hk
  iexists _; isplitr
  · ipureintro
    funext y
    by_cases hy : y ∈ r.set
    · rw [← Rect.map_emb_univ] at hy
      obtain ⟨x, -, rfl⟩ := Finset.mem_map.1 hy
      exact (View.read_slice_write_emb r f w (Finset.mem_univ x)).trans (hin x).symm
    · refine (View.read_slice_write_of_not_mem r f w Finset.univ ?_).trans ((congrFun hf y).trans (hout y hy).symm)
      rw [Rect.map_emb_univ]; exact hy
  iexact H

/-- A store to all of a memref. -/
theorem step_store_all {cs : CoreSpace} {s : Shape} {e : EltTy} {M : Memref sig .tc cs s e} {off : Fin s.rank → ℕ} {inb : ∀ a, off a + s.size a ≤ s.size a}
    {w : s.Idx → Elt F e} {X : s.Idx → Elt F e}
    {α : Type} {Q : α → sProp 𝕄} {k : PUnit → Prog (TpuEff nD τ sig (Elt F) Λ₀ .tc) α} {hx hm} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) := by
  have e : ∀ x : s.Idx, (Rect.unit off s.size inb).emb x = x := fun x => funext fun a => Fin.ext (by
    show off a + 1 * (x a).val = (x a).val
    have := inb a; omega)
  exact step_store c (fun x => congrArg w (e x)) (fun y hy => absurd (by rw [← Rect.map_emb_univ]; exact Finset.mem_map.2 ⟨y, Finset.mem_univ _, e y⟩) hy)

/-- A load of a slot gives what arrived in it. -/
theorem step_load_slot (s : Slot) {M : Memref sig .tc .vmem S3x128x256 .bf16} (eM : M = landM s.2) {off : Fin 3 → ℕ} (eoff : off = ![s.1.val, 0, 0])
    {inb : ∀ a, off a + S1x128x256.size a ≤ S3x128x256.size a}
    {X : S128x256.Idx → Elt F .bf16} {hl : M.view.LoadsAt (Rect.unit (s := S3x128x256) off S1x128x256.size inb).toLoadRect}
    {α : Type} {Q : α → sProp 𝕄} {k : (S1x128x256.Idx → Elt F .bf16) → Prog (TpuEff nD τ sig (Elt F) Λ₀ .tc) α} :
    (owns (c : Thread nD τ) (slotM s) fullShare X : sProp 𝕄)
      ⊢ iprop((owns (c : Thread nD τ) (slotM s) fullShare X
            -∗ wp frame (wpE (defs₀ (F := F)) 𝒱₀ (c : Thread nD τ) none) Set.univ (k (shapeCast S1x128x256 X (by decide))) Q)
          -∗ wp frame (wpE (defs₀ (F := F)) 𝒱₀ (c : Thread nD τ) none) Set.univ
              (.op (.load M (Rect.unit (s := S3x128x256) off S1x128x256.size inb).toLoadRect hl) k) Q) := by
  subst eM eoff
  unfold owns
  iintro ⟨%f, %hf, H⟩ Hk
  subst hf
  iapply (wp_load_rect 𝒱₀ (c : Thread nD τ) none Set.univ (m := landM s.2) (r := slotRect s.1) (S := (slotM s).view.set)
    (show ((landM s.2).access (slotRect s.1)).set ⊆ (((landM s.2).access (slotRect s.1)).reshape S128x256 squeezes_S1x128x256_S128x256.numel_eq).set from
      (View.set_reshape _ _).ge)) $$ H
  iintro H
  rw [show shapeCast S1x128x256 ((slotM s).view.read (Elt F) f) (by decide) = ((landM s.2).access (slotRect s.1)).read (Elt F) f from
    shapeCast_shapeCast (((landM s.2).access (slotRect s.1)).read (Elt F) f) (s := S1x128x256) (t := S128x256) (by decide) (by decide)]
  iapply Hk
  iexists f; isplitr; · ipureintro; rfl
  iexact H

/-- A store of the upper 128 rows. -/
theorem step_store_upper {cs : CoreSpace} {M : Memref sig .tc cs S256x256 .bf16} {inb : ∀ a, (![0, 0] : Fin 2 → ℕ) a + S128x256.size a ≤ S256x256.size a}
    {a : S128x256.Idx → Elt F .bf16} {X : S256x256.Idx → Elt F .bf16}
    {α : Type} {Q : α → sProp 𝕄} {k : PUnit → Prog (TpuEff nD τ sig (Elt F) Λ₀ .tc) α} {hx hm} :
    (owns (c : Thread nD τ) M fullShare X : sProp 𝕄)
      ⊢ iprop(((∃ b, owns (c : Thread nD τ) M fullShare (glue a b)) -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := S256x256) ![0, 0] S128x256.size inb) a Finset.univ hx hm) k) Q) := by
  have hin : ∀ x : S128x256.Idx, glue a (fun x => X (ix2 ⟨(x 0).val + 128, by have : (x 0).val < 128 := (x 0).isLt; omega⟩ (x 1))) ((Rect.unit (s := S256x256) ![0, 0] S128x256.size inb).emb x) = a x := by
    intro x
    have h0 : (x 0).val < 128 := (x 0).isLt
    have e0 : (((Rect.unit (s := S256x256) ![0, 0] S128x256.size inb).emb x) 0).val = (x 0).val := by show 0 + 1 * (x 0).val = _; omega
    unfold glue
    rw [dif_pos (by rw [e0]; exact h0)]
    refine congrArg a (funext fun i => ?_)
    match i with
    | ⟨0, _⟩ => exact Fin.ext e0
    | ⟨1, _⟩ => exact Fin.ext (show 0 + 1 * (x 1).val = (x 1).val by omega)
  have hout : ∀ y, y ∉ (Rect.unit (s := S256x256) ![0, 0] S128x256.size inb).set →
      glue a (fun x => X (ix2 ⟨(x 0).val + 128, by have : (x 0).val < 128 := (x 0).isLt; omega⟩ (x 1))) y = X y := by
    intro y hy
    have h0 : ¬ (y 0).val < 128 := fun h => hy (Rect.mem_set_unit.2 fun i => by
      match i with
      | ⟨0, _⟩ => exact ⟨Nat.zero_le _, by show (y 0).val < 0 + 128; omega⟩
      | ⟨1, _⟩ => exact ⟨Nat.zero_le _, by show (y 1).val < 0 + 256; have : (y 1).val < 256 := (y 1).isLt; omega⟩)
    unfold glue
    rw [dif_neg h0]
    refine congrArg X (funext fun i => ?_)
    match i with
    | ⟨0, _⟩ => exact Fin.ext (show (y 0).val - 128 + 128 = (y 0).val by omega)
    | ⟨1, _⟩ => rfl
  iintro H Hk
  iapply (step_store c hin hout) $$ H
  iintro H
  iapply Hk
  iexists _; iexact H

/-- A store of the lower 128 rows. -/
theorem step_store_lower {cs : CoreSpace} {M : Memref sig .tc cs S256x256 .bf16} {inb : ∀ a, (![128, 0] : Fin 2 → ℕ) a + S128x256.size a ≤ S256x256.size a}
    {a b b' : S128x256.Idx → Elt F .bf16}
    {α : Type} {Q : α → sProp 𝕄} {k : PUnit → Prog (TpuEff nD τ sig (Elt F) Λ₀ .tc) α} {hx hm} :
    (owns (c : Thread nD τ) M fullShare (glue a b') : sProp 𝕄)
      ⊢ iprop((owns (c : Thread nD τ) M fullShare (glue a b) -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := S256x256) ![128, 0] S128x256.size inb) b Finset.univ hx hm) k) Q) := by
  have hin : ∀ x : S128x256.Idx, glue a b ((Rect.unit (s := S256x256) ![128, 0] S128x256.size inb).emb x) = b x := by
    intro x
    have h0 : (x 0).val < 128 := (x 0).isLt
    have e0 : (((Rect.unit (s := S256x256) ![128, 0] S128x256.size inb).emb x) 0).val = 128 + (x 0).val := by show 128 + 1 * (x 0).val = _; omega
    unfold glue
    rw [dif_neg (by rw [e0]; omega)]
    refine congrArg b (funext fun i => ?_)
    match i with
    | ⟨0, _⟩ => exact Fin.ext (show (((Rect.unit (s := S256x256) ![128, 0] S128x256.size inb).emb x) 0).val - 128 = (x 0).val by rw [e0]; omega)
    | ⟨1, _⟩ => exact Fin.ext (show 0 + 1 * (x 1).val = (x 1).val by omega)
  have hout : ∀ y, y ∉ (Rect.unit (s := S256x256) ![128, 0] S128x256.size inb).set → glue a b y = glue a b' y := by
    intro y hy
    have h0 : (y 0).val < 128 := by
      by_contra h
      refine hy (Rect.mem_set_unit.2 fun i => ?_)
      match i with
      | ⟨0, _⟩ => exact ⟨by show 128 ≤ (y 0).val; omega, by show (y 0).val < 128 + 128; have : (y 0).val < 256 := (y 0).isLt; omega⟩
      | ⟨1, _⟩ => exact ⟨Nat.zero_le _, by show (y 1).val < 0 + 256; have : (y 1).val < 256 := (y 1).isLt; omega⟩
    unfold glue
    rw [dif_pos h0, dif_pos h0]
  exact step_store c hin hout

end Steps

end Cert.Exchange

end
-- ==== Proof.Body.lean ====
/-
# The body, part by part

Each part of the kernel's body is run once, for any device: what the part needs, and what it leaves. The parts are then
put together, and the send buffers' three lent shares are taken from the whole and returned to it.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Vocabulary -/

/-- A program of device `c` run to the postcondition `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A memref held outright at contents that nobody relies on. -/
def any (c : Dev nD) {sp : Space} {s : Shape} {e : EltTy} (M : Memref sig .tc sp s e) : sProp 𝕄 := iprop(∃ Y : s.Idx → Elt F e, owns (c : Thread nD τ) M fullShare Y)

/-- Each of the four fetch semaphores lies inside their array. -/
theorem fetch_inb (j : Fin 4) : ∀ a, (![j.val] : Fin 1 → Nat) a + S1.size a ≤ S4.size a := by revert j; decide
/-- The semaphore of input `j`'s copy. -/
abbrev fetchS (j : Fin 4) : DmaSem sig :=
  ((cc0_scratch4.slice (Rect.unit (s := S4) ![j.val] S1.size (fetch_inb j))).squeeze S_ squeezes_S1_S_ : DmaSems sig S_).sem
/-- The semaphores of the local fetches play no part in the exchange. -/
theorem fetch_role (j : Fin 4) : role (.dma (fetchS j)) = .none := by fin_cases j <;> rfl
/-- The semaphore of input `j`'s copy, at zero. -/
def idle (c : Dev nD) (j : Fin 4) : sProp 𝕄 := semVal ((c : Thread nD τ), .dma (fetchS j)) 0

/-- A vector as it is read back from a slot. -/
abbrev slotted (X : S128x256.Idx → Elt F .bf16) : Vec F S1x128x256 .bf16 := shapeCast S1x128x256 X (by decide)

/-- The partial result of half `k` that reaches device `c` along hop `h`. -/
abbrev got (c : Dev nD) (h : Fin 3) (k : Half) : S128x256.Idx → Elt F .bf16 := part m ((hop h).symm c) k

section Parts

variable (K : Dev nD × Cell → ℕ) (c : Dev nD) (o : Memref sig .tc .vmem S256x256 .bf16) (ho : o.IsWhole)

/-- A part of the body on the launch's buffers. -/
abbrev onBufs {γ : Type 1} (p : (a0 : Memref sig .tc .hbm S256x256 .f32) → a0.IsWhole →
      (a1 : Memref sig .tc .hbm S256x512 .f32) → a1.IsWhole →
      (a2 : Memref sig .tc .hbm S256x512 .f32) → a2.IsWhole →
      (a3 : Memref sig .tc .hbm S512x256 .f32) → a3.IsWhole →
      (a4 : Memref sig .tc .vmem S256x256 .bf16) → a4.IsWhole →
      (a5 : Memref sig .tc .vmem S256x256 .f32) → a5.IsWhole →
      (a6 : Memref sig .tc .vmem S256x512 .f32) → a6.IsWhole →
      (a7 : Memref sig .tc .vmem S256x512 .f32) → a7.IsWhole →
      (a8 : Memref sig .tc .vmem S512x256 .f32) → a8.IsWhole →
      DmaSems sig S4 →
      (a10 : Memref sig .tc .vmem S128x256 .bf16) → a10.IsWhole →
      (a11 : Memref sig .tc .vmem S128x256 .bf16) → a11.IsWhole →
      (a12 : Memref sig .tc .vmem S3x128x256 .bf16) → a12.IsWhole →
      (a13 : Memref sig .tc .vmem S3x128x256 .bf16) → a13.IsWhole →
      DmaSems sig S3x2 →
      DmaSems sig S3x2 → γ) : γ :=
  p (Memref.whole main_arg0) (Memref.isWhole_whole _) (Memref.whole main_arg1) (Memref.isWhole_whole _) (Memref.whole main_arg2) (Memref.isWhole_whole _) (Memref.whole main_arg3) (Memref.isWhole_whole _) o ho (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10

/-- The signals, the four copies under way, and the first one's arrival. -/
theorem run_part1 {α : Type} {Q : α → sProp 𝕄}
    {k : (Σ' (d0 : Dev nD) (v2 : BitVec 32) (v3 : Sems sig S_), Vec F S256x256 .f32) → Prog (TpuEff nD τ sig (Elt F) Λ₀ .tc) α} :
    iprop(records m K ∗ levAts L lv ∗ owing c Finset.univ Finset.univ
        ∗ (dutyTok EX (gate ((hop 0).symm c)) 0 0 ∗ dutyTok EX (gate ((hop 1).symm c)) 0 1 ∗ dutyTok EX (gate ((hop 2).symm c)) 0 2)
        ∗ ((free c (0, 0) ∗ free c (0, 1)) ∗ (free c (1, 0) ∗ free c (1, 1)) ∗ (free c (2, 0) ∗ free c (2, 1)))
        ∗ (owns (c : Thread nD τ) (Memref.whole main_arg0) fullShare (xAt m c) ∗ owns (c : Thread nD τ) (Memref.whole main_arg1) fullShare (gAt m c)
          ∗ owns (c : Thread nD τ) (Memref.whole main_arg2) fullShare (uAt m c) ∗ owns (c : Thread nD τ) (Memref.whole main_arg3) fullShare (dAt m c))
        ∗ (any c (Memref.whole cc0_scratch0) ∗ any c (Memref.whole cc0_scratch1) ∗ any c (Memref.whole cc0_scratch2) ∗ any c (Memref.whole cc0_scratch3))
        ∗ (idle c 0 ∗ idle c 1 ∗ idle c 2 ∗ idle c 3))
      ⊢ iprop((∀ v2, (owing c Finset.univ ∅
            ∗ (idle c 0 ∗ owns (c : Thread nD τ) (Memref.whole main_arg0) fullShare (xAt m c) ∗ any c (Memref.whole cc0_scratch0))
            ∗ coming c (fetchS 1) (Memref.whole main_arg1) (Memref.whole cc0_scratch1) (gAt m c)
            ∗ coming c (fetchS 2) (Memref.whole main_arg2) (Memref.whole cc0_scratch2) (uAt m c)
            ∗ coming c (fetchS 3) (Memref.whole main_arg3) (Memref.whole cc0_scratch3) (dAt m c))
          -∗ runs c (k ⟨c, v2, SemArray.scalar (sig.barrier 0 rfl), xAt m c⟩) Q)
        -∗ runs c (onBufs o ho (k0_part1 (F := F)) >>= k) Q) := by
  rw [k0_part1_eq_skeleton]
  unfold k0_part1_skel any idle
  simp only [runs, semSignalWord, Prog.lift, Prog.bind_op, Prog.bind_ret, Prog.pure_eq_ret, wp_deviceId]
  iintro ⟨#HR, #Hlev, HO, ⟨Ht0, Ht1, Ht2⟩, ⟨⟨F00, F01⟩, ⟨F10, F11⟩, ⟨F20, F21⟩⟩, ⟨A0, A1, A2, A3⟩, ⟨B0, B1, B2, B3⟩, ⟨Z0, Z1, Z2, Z3⟩⟩ Hk
  iapply (step_signal m K c 2 Finset.univ (Finset.mem_univ _) (eq_back 2 (k0_dev1_eq c)) (by decide)) $$ [HO Ht2 F20 F21]
  · iframe
    iexact HR
  iintro HO
  iapply (step_signal m K c 1 Finset.univ (B := Finset.univ.erase 2) (by decide) (eq_back 1 (k0_dev2_eq c)) (by decide)) $$ [HO Ht1 F10 F11]
  · iframe
    iexact HR
  iintro HO
  iapply (step_signal m K c 0 Finset.univ (B := (Finset.univ.erase 2).erase 1) (by decide) (eq_back 0 (k0_dev3_eq c)) (by decide)) $$ [HO Ht0 F00 F01]
  · iframe
    iexact HR
  iintro HO
  rw [show ((Finset.univ.erase (2 : Fin 3)).erase 1).erase 0 = ∅ from by decide]
  iapply (step_fetch c (View.dmaCredit_pos _ (by decide)) (xAt m c)) $$ [A0 B0 Z0]
  · iframe
    iexact Z0
  iintro C0
  iapply (step_fetch c (View.dmaCredit_pos _ (by decide)) (gAt m c)) $$ [A1 B1 Z1]
  · iframe
    iexact Z1
  iintro C1
  iapply (step_fetch c (View.dmaCredit_pos _ (by decide)) (uAt m c)) $$ [A2 B2 Z2]
  · iframe
    iexact Z2
  iintro C2
  iapply (step_fetch c (View.dmaCredit_pos _ (by decide)) (dAt m c)) $$ [A3 B3 Z3]
  · iframe
    iexact Z3
  iintro C3
  iapply (step_arrived c (fetch_role 0) Finset.univ (xAt m c)) $$ [HO C0]
  · isplitr; · iexact Hlev
    isplitl [HO]; · iexact HO
    iexact C0
  iintro ⟨HO, Z0, A0, B0⟩
  iapply (step_load c) $$ B0
  iintro B0
  iapply Hk
  isplitl [HO]; · iexact HO
  isplitl [Z0 A0 B0]
  · isplitl [Z0]; · iexact Z0
    isplitl [A0]; · iexact A0
    iexists _; iexact B0
  isplitl [C1]; · iexact C1
  isplitl [C2]; · iexact C2
  iexact C3

/-- What a part needs to send slot `s`: the two duty tokens of the copy. -/
abbrev toks (s : Slot) : sProp 𝕄 := iprop(dutyTok EX (out c s) 0 0 ∗ dutyTok EX (inn (hop s.1 c) s) 0 0)
/-- What a part needs to wait for an incoming copy. -/
abbrev awaits (s : Slot) : sProp 𝕄 := iprop(cred (tallyAt (inn c s) () N) ∗ atPos EX (inn c s) 0 ∅ 0)
/-- What an arrived copy leaves. -/
abbrev arrived (s : Slot) : sProp 𝕄 := iprop(semVal (inn c s) 0 ∗ landed m c s)
/-- What a copy under way leaves with its sender. -/
abbrev sending (s : Slot) : sProp 𝕄 := cred (tallyAt (out c s) () N)

/-- A load of a slot after its copy's arrival. -/
theorem step_load_landed (s : Slot) {M : Memref sig .tc .vmem S3x128x256 .bf16} (eM : M = landM s.2) {off : Fin 3 → ℕ} (eoff : off = ![s.1.val, 0, 0])
    {inb : ∀ a, off a + S1x128x256.size a ≤ S3x128x256.size a} {hl : M.view.LoadsAt (Rect.unit (s := S3x128x256) off S1x128x256.size inb).toLoadRect}
    {α : Type} {Q : α → sProp 𝕄} {k : (S1x128x256.Idx → Elt F .bf16) → Prog (TpuEff nD τ sig (Elt F) Λ₀ .tc) α} :
    (landed m c s : sProp 𝕄)
      ⊢ iprop((landed m c s -∗ runs c (k (slotted (got m c s.1 s.2))) Q)
          -∗ runs c (.op (.load M (Rect.unit (s := S3x128x256) off S1x128x256.size inb).toLoadRect hl) k) Q) := by
  unfold landed
  exact step_load_slot c s eM eoff

/-- The other inputs' arrival, the first half's partial result into its send buffer, and the wait at the barrier. -/
theorem run_part2 (v2 : BitVec 32) {α : Type} {Q : α → sProp 𝕄}
    {k : (Σ' (v41 : FVec F S256x512 .bf16) (v45 : FVec F S512x256 .bf16) (v47 : FVec F S128x256 .f32), BitVec 32) → Prog (TpuEff nD τ sig (Elt F) Λ₀ .tc) α} :
    iprop(records m K ∗ levAts L lv ∗ owing c Finset.univ ∅
        ∗ coming c (fetchS 1) (Memref.whole main_arg1) (Memref.whole cc0_scratch1) (gAt m c)
        ∗ coming c (fetchS 2) (Memref.whole main_arg2) (Memref.whole cc0_scratch2) (uAt m c)
        ∗ coming c (fetchS 3) (Memref.whole main_arg3) (Memref.whole cc0_scratch3) (dAt m c)
        ∗ any c (sendM 0) ∗ cred (tallyAt (gate c) () 3) ∗ atPos EX (gate c) 0 ∅ 0)
      ⊢ iprop((∀ v53, (owing c Finset.univ ∅
            ∗ (idle c 1 ∗ owns (c : Thread nD τ) (Memref.whole main_arg1) fullShare (gAt m c) ∗ any c (Memref.whole cc0_scratch1))
            ∗ (idle c 2 ∗ owns (c : Thread nD τ) (Memref.whole main_arg2) fullShare (uAt m c) ∗ any c (Memref.whole cc0_scratch2))
            ∗ (idle c 3 ∗ owns (c : Thread nD τ) (Memref.whole main_arg3) fullShare (dAt m c) ∗ any c (Memref.whole cc0_scratch3))
            ∗ (held m c (0, 0) ∗ held m c (1, 0) ∗ held m c (2, 0)) ∗ semVal (gate c) 0 ∗ (grant c 0 ∗ grant c 1 ∗ grant c 2))
          -∗ runs c (k ⟨k0_pay1 (xAt m c) (gAt m c) (uAt m c), k0_pay2 (dAt m c), k0_pay3 (xAt m c) (gAt m c) (uAt m c) (dAt m c), v53⟩) Q)
        -∗ runs c (onBufs o ho (k0_part2 (F := F)) v2 (SemArray.scalar (sig.barrier 0 rfl)) (xAt m c) >>= k) Q) := by
  rw [k0_part2_eq_skeleton]
  unfold k0_part2_skel any idle
  simp only [runs, semSignalWord, semWaitWord, Prog.lift, Prog.bind_op, Prog.bind_ret, Prog.pure_eq_ret]
  iintro ⟨#HR, #Hlev, HO, C1, C2, C3, ⟨%Y, B5⟩, Hc, Ha⟩ Hk
  iapply (step_arrived c (fetch_role 1) Finset.univ (gAt m c)) $$ [HO C1]
  · isplitr; · iexact Hlev
    isplitl [HO]; · iexact HO
    iexact C1
  iintro ⟨HO, Z1, A1, B1⟩
  iapply (step_load c) $$ B1
  iintro B1
  iapply (step_arrived c (fetch_role 2) Finset.univ (uAt m c)) $$ [HO C2]
  · isplitr; · iexact Hlev
    isplitl [HO]; · iexact HO
    iexact C2
  iintro ⟨HO, Z2, A2, B2⟩
  iapply (step_load c) $$ B2
  iintro B2
  iapply (step_arrived c (fetch_role 3) Finset.univ (dAt m c)) $$ [HO C3]
  · isplitr; · iexact Hlev
    isplitl [HO]; · iexact HO
    iexact C3
  iintro ⟨HO, Z3, A3, B3⟩
  iapply (step_load c) $$ B3
  iintro B3
  iapply (step_load c) $$ B5
  iintro B5
  iapply (step_store_all c) $$ B5
  iintro B5
  iapply (step_gate m K c Finset.univ (by decide)) $$ [HO Hc Ha]
  · isplitr; · iexact HR
    isplitr; · iexact Hlev
    isplitl [HO]; · iexact HO
    isplitl [Hc]; · iexact Hc
    iexact Ha
  iintro ⟨HO, Hz, G⟩
  ihave H := (Entails.of_eq (show owns (c : Thread nD τ) (sendM 0) fullShare (k0_pay4 (xAt m c) (gAt m c) (uAt m c) (dAt m c)) = _ from lend m c 0)) $$ B5
  iapply Hk
  isplitl [HO]; · iexact HO
  isplitl [Z1 A1 B1]
  · isplitl [Z1]; · iexact Z1
    isplitl [A1]; · iexact A1
    iexists _; iexact B1
  isplitl [Z2 A2 B2]
  · isplitl [Z2]; · iexact Z2
    isplitl [A2]; · iexact A2
    iexists _; iexact B2
  isplitl [Z3 A3 B3]
  · isplitl [Z3]; · iexact Z3
    isplitl [A3]; · iexact A3
    iexists _; iexact B3
  isplitl [H]; · iexact H
  isplitl [Hz]; · iexact Hz
  iexact G

/-- The three copies of the first half. -/
theorem run_part3 (v2 : BitVec 32) (v41 : FVec F S256x512 .bf16) (v45 : FVec F S512x256 .bf16) {α : Type} {Q : α → sProp 𝕄}
    {k : (Σ' (v63 : BitVec 32) (v73 : BitVec 32) (v83 : FVec F S128x256 .f32), FVec F S128x256 .bf16) → Prog (TpuEff nD τ sig (Elt F) Λ₀ .tc) α} :
    iprop(records m K ∗ owing c Finset.univ ∅ ∗ (toks c (1, 0) ∗ toks c (0, 0) ∗ toks c (2, 0))
        ∗ (held m c (1, 0) ∗ held m c (0, 0) ∗ held m c (2, 0)) ∗ (free (hop 1 c) (1, 0) ∗ free (hop 0 c) (0, 0) ∗ free (hop 2 c) (2, 0))
        ∗ any c (sendM 1))
      ⊢ iprop((∀ v63 v73, (owing c ((((Finset.univ : Finset Slot).erase (1, 0)).erase (0, 0)).erase (2, 0)) ∅ ∗ (sending c (1, 0) ∗ sending c (0, 0) ∗ sending c (2, 0)) ∗ any c (sendM 1))
          -∗ runs c (k ⟨v63, v73, k0_pay5 v41 v45, k0_pay6 v41 v45⟩) Q)
        -∗ runs c (onBufs o ho (k0_part3 (F := F)) c v2 v41 v45 >>= k) Q) := by
  rw [k0_part3_eq_skeleton]
  unfold k0_part3_skel any
  simp only [runs, semSignalWord, semWaitWord, Prog.lift, Prog.bind_op, Prog.bind_ret, Prog.pure_eq_ret]
  iintro ⟨#HR, HO, ⟨⟨To10, Ti10⟩, ⟨To00, Ti00⟩, ⟨To20, Ti20⟩⟩, ⟨H10, H00, H20⟩, ⟨F10, F00, F20⟩, ⟨%Y, B6⟩⟩ Hk
  iapply (step_copy m K c (1, 0) (S := (Finset.univ : Finset Slot)) (by decide) (eq_hop 1 (k0_dev4_eq c)) rfl rfl rfl rfl) $$ [HO To10 Ti10 H10 F10]
  · isplitr; · iexact HR
    isplitl [HO]; · iexact HO
    isplitl [To10 Ti10]
    · isplitl [To10]; · iexact To10
      iexact Ti10
    isplitl [H10]; · iexact H10
    iexact F10
  iintro ⟨HO, S10⟩
  iapply (step_copy m K c (0, 0) (S := ((Finset.univ : Finset Slot).erase (1, 0))) (by decide) (eq_hop 0 (k0_dev5_eq c)) rfl rfl rfl rfl) $$ [HO To00 Ti00 H00 F00]
  · isplitr; · iexact HR
    isplitl [HO]; · iexact HO
    isplitl [To00 Ti00]
    · isplitl [To00]; · iexact To00
      iexact Ti00
    isplitl [H00]; · iexact H00
    iexact F00
  iintro ⟨HO, S00⟩
  iapply (step_copy m K c (2, 0) (S := (((Finset.univ : Finset Slot).erase (1, 0)).erase (0, 0))) (by decide) (eq_hop 2 (k0_dev6_eq c)) rfl rfl rfl rfl) $$ [HO To20 Ti20 H20 F20]
  · isplitr; · iexact HR
    isplitl [HO]; · iexact HO
    isplitl [To20 Ti20]
    · isplitl [To20]; · iexact To20
      iexact Ti20
    isplitl [H20]; · iexact H20
    iexact F20
  iintro ⟨HO, S20⟩
  iapply (step_load c) $$ B6
  iintro B6
  iapply Hk
  isplitl [HO]; · iexact HO
  isplitl [S10 S00 S20]
  · isplitl [S10]; · iexact S10
    isplitl [S00]; · iexact S00
    iexact S20
  iexists _; iexact B6

/-- The second half's partial result into its send buffer, and the first two copies of it. -/
theorem run_part4 (v2 : BitVec 32) {α : Type} {Q : α → sProp 𝕄}
    {k : (Σ' (v89 : BitVec 32) (v99 : BitVec 32), BitVec 32) → Prog (TpuEff nD τ sig (Elt F) Λ₀ .tc) α} :
    iprop(records m K ∗ owing c ((((Finset.univ : Finset Slot).erase (1, 0)).erase (0, 0)).erase (2, 0)) ∅ ∗ (toks c (1, 1) ∗ toks c (0, 1)) ∗ any c (sendM 1) ∗ (free (hop 1 c) (1, 1) ∗ free (hop 0 c) (0, 1)))
      ⊢ iprop((∀ v89 v99 v109, (owing c ((((((Finset.univ : Finset Slot).erase (1, 0)).erase (0, 0)).erase (2, 0)).erase (1, 1)).erase (0, 1)) ∅ ∗ (sending c (1, 1) ∗ sending c (0, 1)) ∗ held m c (2, 1))
          -∗ runs c (k ⟨v89, v99, v109⟩) Q)
        -∗ runs c (onBufs o ho (k0_part4 (F := F)) c v2 (k0_pay6 (k0_pay1 (xAt m c) (gAt m c) (uAt m c)) (k0_pay2 (dAt m c))) >>= k) Q) := by
  rw [k0_part4_eq_skeleton]
  unfold k0_part4_skel any
  simp only [runs, semSignalWord, semWaitWord, Prog.lift, Prog.bind_op, Prog.bind_ret, Prog.pure_eq_ret]
  iintro ⟨#HR, HO, ⟨⟨To11, Ti11⟩, ⟨To01, Ti01⟩⟩, ⟨%Y, B6⟩, ⟨F11, F01⟩⟩ Hk
  iapply (step_store_all c) $$ B6
  iintro B6
  ihave H := (Entails.of_eq (show owns (c : Thread nD τ) (sendM 1) fullShare (k0_pay7 (k0_pay6 (k0_pay1 (xAt m c) (gAt m c) (uAt m c)) (k0_pay2 (dAt m c)))) = _ from lend m c 1)) $$ B6
  icases H with ⟨H01, H11, H21⟩
  iapply (step_copy m K c (1, 1) (S := ((((Finset.univ : Finset Slot).erase (1, 0)).erase (0, 0)).erase (2, 0))) (by decide) (eq_hop 1 (k0_dev7_eq c)) rfl rfl rfl rfl) $$ [HO To11 Ti11 H11 F11]
  · isplitr; · iexact HR
    isplitl [HO]; · iexact HO
    isplitl [To11 Ti11]
    · isplitl [To11]; · iexact To11
      iexact Ti11
    isplitl [H11]; · iexact H11
    iexact F11
  iintro ⟨HO, S11⟩
  iapply (step_copy m K c (0, 1) (S := (((((Finset.univ : Finset Slot).erase (1, 0)).erase (0, 0)).erase (2, 0)).erase (1, 1))) (by decide) (eq_hop 0 (k0_dev8_eq c)) rfl rfl rfl rfl) $$ [HO To01 Ti01 H01 F01]
  · isplitr; · iexact HR
    isplitl [HO]; · iexact HO
    isplitl [To01 Ti01]
    · isplitl [To01]; · iexact To01
      iexact Ti01
    isplitl [H01]; · iexact H01
    iexact F01
  iintro ⟨HO, S01⟩
  iapply Hk
  isplitl [HO]; · iexact HO
  isplitl [S11 S01]
  · isplitl [S11]; · iexact S11
    iexact S01
  iexact H21

/-- The last copy, and the first half's partial results of two devices. -/
theorem run_part5 (v47 : FVec F S128x256 .f32) (v63 v73 : BitVec 32) {α : Type} {Q : α → sProp 𝕄}
    {k : (Σ' (v137 : FVec F S128x256 .f32), BitVec 32) → Prog (TpuEff nD τ sig (Elt F) Λ₀ .tc) α} :
    iprop(records m K ∗ owing c ((((((Finset.univ : Finset Slot).erase (1, 0)).erase (0, 0)).erase (2, 0)).erase (1, 1)).erase (0, 1)) ∅ ∗ toks c (2, 1) ∗ held m c (2, 1) ∗ free (hop 2 c) (2, 1) ∗ (awaits c (0, 0) ∗ awaits c (2, 0)))
      ⊢ iprop((∀ w, (owing c ∅ ∅ ∗ sending c (2, 1) ∗ (arrived m c (0, 0) ∗ arrived m c (2, 0)))
          -∗ runs c (k ⟨k0_pay8 v47 (slotted (got m c 0 0)) (slotted (got m c 2 0)), w⟩) Q)
        -∗ runs c (onBufs o ho (k0_part5 (F := F)) c v47 v63 v73 >>= k) Q) := by
  rw [k0_part5_eq_skeleton]
  unfold k0_part5_skel
  simp only [runs, semSignalWord, semWaitWord, Prog.lift, Prog.bind_op, Prog.bind_ret, Prog.pure_eq_ret]
  iintro ⟨#HR, HO, ⟨To21, Ti21⟩, H21, F21, ⟨⟨C00, P00⟩, ⟨C20, P20⟩⟩⟩ Hk
  iapply (step_copy m K c (2, 1) (S := ((((((Finset.univ : Finset Slot).erase (1, 0)).erase (0, 0)).erase (2, 0)).erase (1, 1)).erase (0, 1))) (by decide) (eq_hop 2 (k0_dev9_eq c)) rfl rfl rfl rfl) $$ [HO To21 Ti21 H21 F21]
  · isplitr; · iexact HR
    isplitl [HO]; · iexact HO
    isplitl [To21 Ti21]
    · isplitl [To21]; · iexact To21
      iexact Ti21
    isplitl [H21]; · iexact H21
    iexact F21
  iintro ⟨HO, S21⟩
  rw [show (((((((Finset.univ : Finset Slot).erase (1, 0)).erase (0, 0)).erase (2, 0)).erase (1, 1)).erase (0, 1)).erase (2, 1)) = ∅ from by decide]
  iapply (step_landed m K c (0, 0) rfl (credit_slot (0, 0))) $$ [HO C00 P00]
  · isplitr; · iexact HR
    isplitl [HO]; · iexact HO
    isplitl [C00]; · iexact C00
    iexact P00
  iintro ⟨HO, V00, L00⟩
  iapply (step_landed m K c (2, 0) rfl (credit_slot (2, 0))) $$ [HO C20 P20]
  · isplitr; · iexact HR
    isplitl [HO]; · iexact HO
    isplitl [C20]; · iexact C20
    iexact P20
  iintro ⟨HO, V20, L20⟩
  iapply (step_load_landed m c (0, 0) rfl rfl) $$ L00
  iintro L00
  iapply (step_load_landed m c (2, 0) rfl rfl) $$ L20
  iintro L20
  iapply Hk
  isplitl [HO]; · iexact HO
  isplitl [S21]; · iexact S21
  isplitl [V00 L00]
  · isplitl [V00]; · iexact V00
    iexact L00
  isplitl [V20]; · iexact V20
  iexact L20

/-- The first half's last partial result and the store of its sum; two partial results of the second half. -/
theorem run_part6 (v137 : FVec F S128x256 .f32) (v53 v99 v109 w : BitVec 32) {α : Type} {Q : α → sProp 𝕄}
    {k : (FVec F S128x256 .f32) → Prog (TpuEff nD τ sig (Elt F) Λ₀ .tc) α} :
    iprop(records m K ∗ owing c ∅ ∅ ∗ (awaits c (1, 0) ∗ awaits c (0, 1) ∗ awaits c (2, 1)) ∗ any c o)
      ⊢ iprop(((owing c ∅ ∅ ∗ (arrived m c (1, 0) ∗ arrived m c (0, 1) ∗ arrived m c (2, 1))
            ∗ ∃ b, owns (c : Thread nD τ) o fullShare (glue (k0_pay9 v137 (slotted (got m c 1 0))) b))
          -∗ runs c (k (k0_pay10 (slotted (got m c 0 1)))) Q)
        -∗ runs c (onBufs o ho (k0_part6 (F := F)) v53 v99 v109 v137 w >>= k) Q) := by
  rw [k0_part6_eq_skeleton]
  unfold k0_part6_skel any
  simp only [runs, semSignalWord, semWaitWord, Prog.lift, Prog.bind_op, Prog.bind_ret, Prog.pure_eq_ret]
  iintro ⟨#HR, HO, ⟨⟨C10, P10⟩, ⟨C01, P01⟩, ⟨C21, P21⟩⟩, ⟨%Y, O⟩⟩ Hk
  iapply (step_landed m K c (1, 0) rfl (credit_slot (1, 0))) $$ [HO C10 P10]
  · isplitr; · iexact HR
    isplitl [HO]; · iexact HO
    isplitl [C10]; · iexact C10
    iexact P10
  iintro ⟨HO, V10, L10⟩
  iapply (step_load_landed m c (1, 0) rfl rfl) $$ L10
  iintro L10
  iapply (step_load_any c) $$ O
  iintro %v O
  iapply (step_store_upper c) $$ O
  iintro O
  iapply (step_landed m K c (0, 1) rfl (credit_slot (0, 1))) $$ [HO C01 P01]
  · isplitr; · iexact HR
    isplitl [HO]; · iexact HO
    isplitl [C01]; · iexact C01
    iexact P01
  iintro ⟨HO, V01, L01⟩
  iapply (step_landed m K c (2, 1) rfl (credit_slot (2, 1))) $$ [HO C21 P21]
  · isplitr; · iexact HR
    isplitl [HO]; · iexact HO
    isplitl [C21]; · iexact C21
    iexact P21
  iintro ⟨HO, V21, L21⟩
  iapply (step_load_landed m c (0, 1) rfl rfl) $$ L01
  iintro L01
  iapply Hk
  isplitl [HO]; · iexact HO
  isplitr [O]
  · isplitl [V10 L10]
    · isplitl [V10]; · iexact V10
      iexact L10
    isplitl [V01 L01]
    · isplitl [V01]; · iexact V01
      iexact L01
    isplitl [V21]; · iexact V21
    iexact L21
  iexact O

/-- The second half's last partial result and the store of its sum; the first of the waits for the sources. -/
theorem run_part7 (a : S128x256.Idx → Elt F .bf16) (v83 : FVec F S128x256 .f32) (v89 : BitVec 32) (v164 : FVec F S128x256 .f32) {α : Type} {Q : α → sProp 𝕄}
    {k : PUnit → Prog (TpuEff nD τ sig (Elt F) Λ₀ .tc) α} :
    iprop(records m K ∗ owing c ∅ ∅ ∗ landed m c (2, 1) ∗ awaits c (1, 1)
        ∗ (∃ b, owns (c : Thread nD τ) o fullShare (glue a b)) ∗ (sending c (1, 0) ∗ atPos EX (out c (1, 0)) 0 ∅ 0))
      ⊢ iprop(((owing c ∅ ∅ ∗ landed m c (2, 1) ∗ arrived m c (1, 1)
            ∗ owns (c : Thread nD τ) o fullShare (glue a (k0_pay11 v83 v164 (slotted (got m c 2 1)) (slotted (got m c 1 1))))
            ∗ (semVal (out c (1, 0)) 0 ∗ held m c (1, 0)))
          -∗ runs c (k ⟨⟩) Q)
        -∗ runs c (onBufs o ho (k0_part7 (F := F)) v83 v89 v164 >>= k) Q) := by
  rw [k0_part7_eq_skeleton]
  unfold k0_part7_skel
  simp only [runs, semSignalWord, semWaitWord, Prog.lift, Prog.bind_op, Prog.bind_ret, Prog.pure_eq_ret]
  iintro ⟨#HR, HO, L21, ⟨C11, P11⟩, ⟨%b, O⟩, ⟨S10, P10⟩⟩ Hk
  iapply (step_load_landed m c (2, 1) rfl rfl) $$ L21
  iintro L21
  iapply (step_landed m K c (1, 1) rfl (credit_slot (1, 1))) $$ [HO C11 P11]
  · isplitr; · iexact HR
    isplitl [HO]; · iexact HO
    isplitl [C11]; · iexact C11
    iexact P11
  iintro ⟨HO, V11, L11⟩
  iapply (step_load_landed m c (1, 1) rfl rfl) $$ L11
  iintro L11
  iapply (step_load_any c) $$ O
  iintro %v O
  iapply (step_store_lower c) $$ O
  iintro O
  iapply (step_sent m K c (1, 0) rfl (credit_send 0)) $$ [HO S10 P10]
  · isplitr; · iexact HR
    isplitl [HO]; · iexact HO
    isplitl [S10]; · iexact S10
    iexact P10
  iintro ⟨HO, V10, H10⟩
  iapply Hk
  isplitl [HO]; · iexact HO
  isplitl [L21]; · iexact L21
  isplitl [V11 L11]
  · isplitl [V11]; · iexact V11
    iexact L11
  isplitl [O]; · iexact O
  isplitl [V10]; · iexact V10
  iexact H10

/-! ## The whole body -/

/-- The sums that are stored: a device's own partial result, then those of the others as they are taken up. -/
def upper : S128x256.Idx → Elt F .bf16 :=
  k0_pay9 (k0_pay8 (k0_pay3 (xAt m c) (gAt m c) (uAt m c) (dAt m c)) (slotted (got m c 0 0)) (slotted (got m c 2 0))) (slotted (got m c 1 0))
/-- The lower half of the result, likewise. -/
def lower : S128x256.Idx → Elt F .bf16 :=
  k0_pay11 (k0_pay5 (k0_pay1 (xAt m c) (gAt m c) (uAt m c)) (k0_pay2 (dAt m c))) (k0_pay10 (slotted (got m c 0 1))) (slotted (got m c 2 1)) (slotted (got m c 1 1))

/-- The argument arrays, at the launch's contents. -/
def inputs : sProp 𝕄 :=
  iprop(owns (c : Thread nD τ) (Memref.whole main_arg0) fullShare (xAt m c) ∗ owns (c : Thread nD τ) (Memref.whole main_arg1) fullShare (gAt m c)
    ∗ owns (c : Thread nD τ) (Memref.whole main_arg2) fullShare (uAt m c) ∗ owns (c : Thread nD τ) (Memref.whole main_arg3) fullShare (dAt m c))

/-- The buffers that the inputs are fetched into. -/
def fetched : sProp 𝕄 :=
  iprop(any (F := F) c (Memref.whole cc0_scratch0) ∗ any c (Memref.whole cc0_scratch1) ∗ any c (Memref.whole cc0_scratch2) ∗ any c (Memref.whole cc0_scratch3))

/-- The six slots of a device, at unknown contents. -/
def slots : sProp 𝕄 :=
  iprop((free (F := F) c (0, 0) ∗ free c (0, 1)) ∗ (free c (1, 0) ∗ free c (1, 1)) ∗ (free c (2, 0) ∗ free c (2, 1)))

/-- The exchange's tokens, positions and credits of one device at the start. -/
def tickets : sProp 𝕄 :=
  iprop((dutyTok EX (gate ((hop 0).symm c)) 0 0 ∗ dutyTok EX (gate ((hop 1).symm c)) 0 1 ∗ dutyTok EX (gate ((hop 2).symm c)) 0 2)
    ∗ (toks c (0, 0) ∗ toks c (1, 0) ∗ toks c (2, 0) ∗ toks c (0, 1) ∗ toks c (1, 1) ∗ toks c (2, 1))
    ∗ (cred (tallyAt (gate c) () 3) ∗ atPos EX (gate c) 0 ∅ 0)
    ∗ (atPos EX (out c (0, 0)) 0 ∅ 0 ∗ atPos EX (out c (1, 0)) 0 ∅ 0 ∗ atPos EX (out c (2, 0)) 0 ∅ 0 ∗ atPos EX (out c (0, 1)) 0 ∅ 0 ∗ atPos EX (out c (1, 1)) 0 ∅ 0 ∗ atPos EX (out c (2, 1)) 0 ∅ 0)
    ∗ (awaits c (0, 0) ∗ awaits c (1, 0) ∗ awaits c (2, 0) ∗ awaits c (0, 1) ∗ awaits c (1, 1) ∗ awaits c (2, 1)))

/-- The exchange's cells of one device, closed at zero. -/
def closed : sProp 𝕄 :=
  iprop(semVal (gate c) 0 ∗ (semVal (out c (0, 0)) 0 ∗ semVal (out c (1, 0)) 0 ∗ semVal (out c (2, 0)) 0 ∗ semVal (out c (0, 1)) 0 ∗ semVal (out c (1, 1)) 0 ∗ semVal (out c (2, 1)) 0) ∗ (semVal (inn c (0, 0)) 0 ∗ semVal (inn c (1, 0)) 0 ∗ semVal (inn c (2, 0)) 0 ∗ semVal (inn c (0, 1)) 0 ∗ semVal (inn c (1, 1)) 0 ∗ semVal (inn c (2, 1)) 0))

/-- All four input semaphores at zero. -/
def quiet : sProp 𝕄 := iprop(idle (F := F) c 0 ∗ idle c 1 ∗ idle c 2 ∗ idle c 3)

/-- A slot that holds what landed in it is a slot with some contents. -/
theorem landed_free (s : Slot) : (landed m c s : sProp 𝕄) ⊢ free c s := by
  unfold landed free owns
  iintro ⟨%f, -, H⟩
  iexists f; iexact H

/-- A buffer owned at known contents is one owned at some contents. -/
theorem owns_any {sp : Space} {s : Shape} {e : EltTy} (M : Memref sig .tc sp s e) (X : s.Idx → Elt F e) : (owns (c : Thread nD τ) M fullShare X : sProp 𝕄) ⊢ any c M := by
  unfold any
  iintro H
  iexists X; iexact H

/-- What `k0_part8` leaves: all but the last wait. -/
def nearlyDone : sProp 𝕄 :=
  iprop(inputs m c ∗ fetched c ∗ quiet c ∗ any c (sendM 0) ∗ (held m c (0, 1) ∗ held m c (1, 1)) ∗ slots c
    ∗ (semVal (gate c) 0 ∗ (semVal (out c (0, 0)) 0 ∗ semVal (out c (1, 0)) 0 ∗ semVal (out c (2, 0)) 0 ∗ semVal (out c (0, 1)) 0 ∗ semVal (out c (1, 1)) 0) ∗ (semVal (inn c (0, 0)) 0 ∗ semVal (inn c (1, 0)) 0 ∗ semVal (inn c (2, 0)) 0 ∗ semVal (inn c (0, 1)) 0 ∗ semVal (inn c (1, 1)) 0 ∗ semVal (inn c (2, 1)) 0))
    ∗ (sending c (2, 1) ∗ atPos EX (out c (2, 1)) 0 ∅ 0)
    ∗ owns (c : Thread nD τ) o fullShare (glue (upper m c) (lower m c)))

/-- The first 60 steps of the body together. -/
theorem run_part8 {Q : PUnit → sProp 𝕄} :
    iprop(records m K ∗ levAts L lv ∗ owing c Finset.univ Finset.univ ∗ tickets c ∗ inputs m c ∗ fetched c ∗ slots c ∗ quiet c
        ∗ (any c (sendM 0) ∗ any c (sendM 1)) ∗ any c o)
      ⊢ iprop(((owing c ∅ ∅ ∗ nearlyDone m c o) -∗ Q ⟨⟩) -∗ runs c (onBufs o ho (k0_part8 (F := F))) Q) := by
  rw [k0_part8_eq_skeleton]
  unfold k0_part8_skel tickets inputs fetched slots quiet
  simp only [Prog.lift, Prog.bind_op, Prog.bind_ret, Prog.pure_eq_ret]
  iintro ⟨#HR, #Hlev, HO, ⟨Tg, ⟨To00, To10, To20, To01, To11, To21⟩, ⟨Cg, Pg⟩, ⟨P00, P10, P20, P01, P11, P21⟩, ⟨W00, W10, W20, W01, W11, W21⟩⟩, ⟨A0, A1, A2, A3⟩, HB, HF, HZ, ⟨B5, B6⟩, O⟩ Hk
  iapply (run_part1 m K c o ho) $$ [HO Tg HF A0 A1 A2 A3 HB HZ]
  · isplitr; · iexact HR
    isplitr; · iexact Hlev
    isplitl [HO]; · iexact HO
    isplitl [Tg]; · iexact Tg
    isplitl [HF]; · iexact HF
    isplitl [A0 A1 A2 A3]
    · isplitl [A0]; · iexact A0
      isplitl [A1]; · iexact A1
      isplitl [A2]; · iexact A2
      iexact A3
    isplitl [HB]; · iexact HB
    iexact HZ
  iintro %v2 ⟨HO, ⟨Z0, A0, B0⟩, C1, C2, C3⟩
  iapply (run_part2 m K c o ho v2) $$ [HO C1 C2 C3 B5 Cg Pg]
  · isplitr; · iexact HR
    isplitr; · iexact Hlev
    isplitl [HO]; · iexact HO
    isplitl [C1]; · iexact C1
    isplitl [C2]; · iexact C2
    isplitl [C3]; · iexact C3
    isplitl [B5]; · iexact B5
    isplitl [Cg]; · iexact Cg
    iexact Pg
  iintro %v53 ⟨HO, ⟨Z1, A1, B1⟩, ⟨Z2, A2, B2⟩, ⟨Z3, A3, B3⟩, ⟨H00, H10, H20⟩, Vg, ⟨G0, G1, G2⟩⟩
  unfold grant
  icases G0 with ⟨F00, F01⟩
  icases G1 with ⟨F10, F11⟩
  icases G2 with ⟨F20, F21⟩
  iapply (run_part3 m K c o ho v2 _ _) $$ [HO To10 To00 To20 H10 H00 H20 F10 F00 F20 B6]
  · isplitr; · iexact HR
    isplitl [HO]; · iexact HO
    isplitl [To10 To00 To20]
    · isplitl [To10]; · iexact To10
      isplitl [To00]; · iexact To00
      iexact To20
    isplitl [H10 H00 H20]
    · isplitl [H10]; · iexact H10
      isplitl [H00]; · iexact H00
      iexact H20
    isplitl [F10 F00 F20]
    · isplitl [F10]; · iexact F10
      isplitl [F00]; · iexact F00
      iexact F20
    iexact B6
  iintro %v63 %v73 ⟨HO, ⟨S10, S00, S20⟩, B6⟩
  iapply (run_part4 m K c o ho v2) $$ [HO To11 To01 B6 F11 F01]
  · isplitr; · iexact HR
    isplitl [HO]; · iexact HO
    isplitl [To11 To01]
    · isplitl [To11]; · iexact To11
      iexact To01
    isplitl [B6]; · iexact B6
    isplitl [F11]; · iexact F11
    iexact F01
  iintro %v89 %v99 %v109 ⟨HO, ⟨S11, S01⟩, H21⟩
  iapply (run_part5 m K c o ho _ v63 v73) $$ [HO To21 H21 F21 W00 W20]
  · isplitr; · iexact HR
    isplitl [HO]; · iexact HO
    isplitl [To21]; · iexact To21
    isplitl [H21]; · iexact H21
    isplitl [F21]; · iexact F21
    isplitl [W00]; · iexact W00
    iexact W20
  iintro %w ⟨HO, S21, ⟨V00, L00⟩, ⟨V20, L20⟩⟩
  iapply (run_part6 m K c o ho _ v53 v99 v109 w) $$ [HO W10 W01 W21 O]
  · isplitr; · iexact HR
    isplitl [HO]; · iexact HO
    isplitl [W10 W01 W21]
    · isplitl [W10]; · iexact W10
      isplitl [W01]; · iexact W01
      iexact W21
    iexact O
  iintro ⟨HO, ⟨⟨V10, L10⟩, ⟨V01, L01⟩, ⟨V21, L21⟩⟩, O⟩
  iapply (run_part7 m K c o ho _ _ v89 _) $$ [HO L21 W11 O S10 P10]
  · isplitr; · iexact HR
    isplitl [HO]; · iexact HO
    isplitl [L21]; · iexact L21
    isplitl [W11]; · iexact W11
    isplitl [O]; · iexact O
    isplitl [S10]; · iexact S10
    iexact P10
  iintro ⟨HO, L21, ⟨V11, L11⟩, O, ⟨U10, H10⟩⟩
  iapply (step_sent m K c (0, 0) rfl (credit_send 0)) $$ [HO S00 P00]
  · isplitr; · iexact HR
    isplitl [HO]; · iexact HO
    isplitl [S00]; · iexact S00
    iexact P00
  iintro ⟨HO, U00, H00⟩
  iapply (step_sent m K c (2, 0) rfl (credit_send 0)) $$ [HO S20 P20]
  · isplitr; · iexact HR
    isplitl [HO]; · iexact HO
    isplitl [S20]; · iexact S20
    iexact P20
  iintro ⟨HO, U20, H20⟩
  iapply (step_sent m K c (1, 1) rfl (credit_send 1)) $$ [HO S11 P11]
  · isplitr; · iexact HR
    isplitl [HO]; · iexact HO
    isplitl [S11]; · iexact S11
    iexact P11
  iintro ⟨HO, U11, H11⟩
  iapply (step_sent m K c (0, 1) rfl (credit_send 1)) $$ [HO S01 P01]
  · isplitr; · iexact HR
    isplitl [HO]; · iexact HO
    isplitl [S01]; · iexact S01
    iexact P01
  iintro ⟨HO, U01, H01⟩
  rw [wp_ret]
  imodintro
  iapply Hk
  isplitl [HO]; · iexact HO
  unfold nearlyDone inputs fetched slots quiet
  isplitl [A0 A1 A2 A3]
  · iframe
  isplitl [B0 B1 B2 B3]
  · iframe
  isplitl [Z0 Z1 Z2 Z3]
  · iframe
  isplitl [H00 H10 H20]
  · iapply (owns_any (F := F) c (sendM 0) (part m c 0))
    rw [lend]; iframe
  isplitl [H01 H11]
  · iframe
  isplitl [L00 L10 L20 L01 L11 L21]
  · ihave L00 := (landed_free m c (0, 0)) $$ L00
    ihave L10 := (landed_free m c (1, 0)) $$ L10
    ihave L20 := (landed_free m c (2, 0)) $$ L20
    ihave L01 := (landed_free m c (0, 1)) $$ L01
    ihave L11 := (landed_free m c (1, 1)) $$ L11
    ihave L21 := (landed_free m c (2, 1)) $$ L21
    iframe
  isplitl [Vg U00 U10 U20 U01 U11 V00 V10 V20 V01 V11 V21]
  · iframe
  isplitl [S21 P21]
  · iframe
  iexact O

/-- The body of one device: all cells close at zero, the argument arrays are as they were, the output holds the two sums. -/
theorem run_body {Q : PUnit → sProp 𝕄} :
    iprop(records m K ∗ levAts L lv ∗ owing c Finset.univ Finset.univ ∗ tickets c ∗ inputs m c ∗ fetched c ∗ slots c ∗ quiet c
        ∗ (any c (sendM 0) ∗ any c (sendM 1)) ∗ any c o)
      ⊢ iprop(((owing c ∅ ∅ ∗ closed c ∗ inputs m c ∗ fetched c ∗ slots c ∗ quiet c ∗ (any c (sendM 0) ∗ any c (sendM 1))
            ∗ owns (c : Thread nD τ) o fullShare (glue (upper m c) (lower m c))) -∗ Q ⟨⟩)
          -∗ runs c (onBufs o ho (cc0_body (F := F))) Q) := by
  rw [cc0_body_eq_skeleton]
  unfold cc0_body_skel
  simp only [runs, Prog.lift, Prog.bind_op, Prog.bind_ret, Prog.pure_eq_ret]
  rw [wp_bind]
  iintro ⟨#HR, H⟩ Hk
  iapply (run_part8 m K c o ho) $$ [H]
  · isplitr; · iexact HR
    iexact H
  unfold nearlyDone
  iintro ⟨HO, HA, HB, HZ, B5, ⟨H01, H11⟩, HS, ⟨Vg, ⟨U00, U10, U20, U01, U11⟩, HV⟩, ⟨S21, P21⟩, O⟩
  iapply (step_sent m K c (2, 1) rfl (credit_send 1)) $$ [HO S21 P21]
  · isplitr; · iexact HR
    isplitl [HO]; · iexact HO
    isplitl [S21]; · iexact S21
    iexact P21
  iintro ⟨HO, U21, H21⟩
  rw [wp_ret]
  imodintro
  iapply Hk
  unfold closed
  isplitl [HO]; · iexact HO
  isplitl [Vg HV U00 U10 U20 U01 U11 U21]
  · iframe
  isplitl [HA]; · iexact HA
  isplitl [HB]; · iexact HB
  isplitl [HS]; · iexact HS
  isplitl [HZ]; · iexact HZ
  isplitr [O]
  · isplitl [B5]; · iexact B5
    iapply (owns_any (F := F) c (sendM 1) (part m c 1))
    rw [lend]; iframe
  iexact O

end Parts

end Cert.Exchange
end
-- ==== Proof.Launch.lean ====
/-
# From one device's body to the run of the whole mesh

What the body of one device needs is made at launch for all devices at once: the exchange's ghost state is minted cell
by cell, the tokens are dealt to the devices that pay them, and the credits are read off what all devices owe together.
The launch theorem of the pipeline library then gives the run of the program.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Families listed -/

/-- A family over the three hops is its three members side by side. -/
theorem over_hops (Φ : Fin 3 → sProp 𝕄) : bigSep Finset.univ Φ = iprop(Φ 0 ∗ Φ 1 ∗ Φ 2) :=
  bigSep_univ_eq_bigSepL [0, 1, 2] (by decide) (by decide) Φ

/-- A family over the slots is, hop by hop, its members for the two halves. -/
theorem over_slots (Φ : Slot → sProp 𝕄) :
    bigSep Finset.univ Φ = iprop(Φ (0, 0) ∗ Φ (1, 0) ∗ Φ (2, 0) ∗ Φ (0, 1) ∗ Φ (1, 1) ∗ Φ (2, 1)) :=
  bigSep_univ_eq_bigSepL [(0, 0), (1, 0), (2, 0), (0, 1), (1, 1), (2, 1)] (by decide) (by decide) Φ

/-- A family over the send and receive sides is its two sides. -/
theorem over_sides (Φ : Bool × Slot → sProp 𝕄) :
    bigSep Finset.univ Φ = iprop((bigSep Finset.univ fun s => Φ (false, s)) ∗ bigSep Finset.univ fun s => Φ (true, s)) := by
  rw [bigSep_univ_prod]
  exact bigSep_univ_eq_bigSepL [false, true] (by decide) (by decide) _

/-- A family over a device's cells is the gate's member beside those of the send and receive cells. -/
theorem over_cells (Φ : Cell → sProp 𝕄) :
    bigSep Finset.univ Φ = iprop(Φ none ∗ (bigSep Finset.univ fun s => Φ (some (false, s))) ∗ bigSep Finset.univ fun s => Φ (some (true, s))) := by
  rw [bigSep_univ_equiv ((Equiv.sumComm Unit (Bool × Slot)).trans (Equiv.optionEquivSumPUnit (Bool × Slot)).symm) Φ, bigSep_univ_sum,
    over_sides]
  exact congrArg₂ _ (bigSep_univ_eq_bigSepL [()] (by decide) (by decide) _) rfl

/-- Handing a family of resources around: for each index the devices are permuted. -/
theorem dealt {I : Type} [Fintype I] [DecidableEq I] (e : I → Dev nD ≃ Dev nD) (Φ : Dev nD → I → sProp 𝕄) :
    (bigSep Finset.univ fun c => bigSep Finset.univ fun i => Φ c i) = bigSep Finset.univ fun c => bigSep Finset.univ fun i => Φ (e i c) i := by
  have swap (Ψ : Dev nD → I → sProp 𝕄) :
      (bigSep Finset.univ fun c => bigSep Finset.univ fun i => Ψ c i) = bigSep Finset.univ fun i => bigSep Finset.univ fun c => Ψ c i :=
    (bigSep_univ_prod fun p : Dev nD × I => Ψ p.1 p.2).symm.trans
      ((bigSep_univ_equiv (Equiv.prodComm I (Dev nD)) fun p => Ψ p.1 p.2).trans (bigSep_univ_prod _))
  rw [swap, swap]
  exact bigSep_congr fun i _ => bigSep_univ_equiv (e i) fun c => Φ c i

/-- A persistent fact can be used at every member of a family. -/
theorem beside_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have each : iprop(R ∗ bigSep S Φ) ⊢ bigSep S fun i => iprop(R ∗ Φ i) := by
    rw [bigSep_sep']
    iintro ⟨HR, H⟩
    isplitl [HR]
    · iapply (BI.bigSep_of_persistent S R); iexact HR
    · iexact H
  exact each.trans (bigSep_mono h)

/-! ## A landing buffer is its three slots -/

/-- The elements of a slot, as elements of the landing buffer. -/
theorem slot_set (s : Slot) : (slotM s).view.set = (slotRect s.1).set.map (landM s.2).view.emb :=
  (View.set_reshape _ _).trans (View.set_slice _ _)

/-- Two slots of a landing buffer share no element. -/
theorem slots_apart (k : Half) (h h' : Fin 3) (ne : h ≠ h') : Disjoint (slotM (h, k)).view.set (slotM (h', k)).view.set := by
  rw [slot_set, slot_set, Finset.disjoint_map]
  refine Finset.disjoint_left.mpr fun i hi hi' => ne (Fin.ext ?_)
  have a := (Rect.mem_set_unit.mp hi) 0
  have b := (Rect.mem_set_unit.mp hi') 0
  have e : S1x128x256.size 0 = 1 := rfl
  simp only [Matrix.cons_val_zero] at a b
  omega

/-- The three slots make up the landing buffer. -/
theorem slots_cover (k : Half) : (Finset.univ.biUnion fun h : Fin 3 => (slotM (h, k)).view.set) = (landM k).view.set := by
  rw [Finset.biUnion_congr rfl fun h _ => slot_set (h, k)]
  unfold View.set
  ext i
  refine ⟨fun hi => ?_, fun hi => ?_⟩
  · obtain ⟨h, -, hi⟩ := Finset.mem_biUnion.mp hi
    obtain ⟨j, -, rfl⟩ := Finset.mem_map.mp hi
    exact Finset.mem_map_of_mem _ (Finset.mem_univ j)
  · obtain ⟨j, -, rfl⟩ := Finset.mem_map.mp hi
    refine Finset.mem_biUnion.mpr ⟨j 0, Finset.mem_univ _, Finset.mem_map_of_mem _ (Rect.mem_set_unit.mpr fun a => ?_)⟩
    have := (j a).isLt
    fin_cases a
    · exact ⟨Nat.le_refl _, Nat.lt_succ_self _⟩
    · exact ⟨Nat.zero_le _, by simpa using this⟩
    · exact ⟨Nat.zero_le _, by simpa using this⟩

/-- A landing buffer held outright is its three slots, free. -/
theorem land_split (c : Dev nD) (k : Half) : (any c (landM k) : sProp 𝕄) ⊢ iprop(free c (0, k) ∗ free c (1, k) ∗ free c (2, k)) := by
  unfold any owns
  rw [← over_hops fun h => free (F := F) c (h, k)]
  iintro ⟨%Y, %f, -, H⟩
  rw [← slots_cover k]
  ihave H := (Entails.of_eq (pointsTo_biUnion (ℓ := (landM k).view.loc (c : Thread nD τ)) (q := fullShare) (f := f) Finset.univ (fun h : Fin 3 => (slotM (h, k)).view.set) fun h _ h' _ ne => slots_apart k h h' ne)) $$ H
  have some (h : Fin 3) : ((landM k).view.loc (c : Thread nD τ) ↦[(slotM (h, k)).view.set]{fullShare} f : sProp 𝕄) ⊢ free c (h, k) := by
    unfold free
    iintro H
    iexists f; iexact H
  iapply (show (bigSep Finset.univ fun h : Fin 3 => ((landM k).view.loc (c : Thread nD τ) ↦[(slotM (h, k)).view.set]{fullShare} f : sProp 𝕄))
    ⊢ bigSep Finset.univ fun h : Fin 3 => free (F := F) c (h, k) from bigSep_mono fun h _ => some h) $$ H

/-- Three free slots are the landing buffer again. -/
theorem land_join (c : Dev nD) (k : Half) : (iprop(free c (0, k) ∗ free c (1, k) ∗ free c (2, k)) : sProp 𝕄) ⊢ any c (landM k) := by
  unfold any owns
  rw [← over_hops fun h => free (F := F) c (h, k)]
  unfold free
  iintro H
  ihave H := (BI.bigSep_exists_pi Finset.univ fun (h : Fin 3) (f : Buf (Elt F) ((landM k).view.loc (c : Thread nD τ))) =>
    (((landM k).view.loc (c : Thread nD τ)) ↦[(slotM (h, k)).view.set]{fullShare} f : sProp 𝕄)) $$ H
  icases H with ⟨%fs, H⟩
  ihave H := (pointsTo_biUnion_join Finset.univ (fun h : Fin 3 => (slotM (h, k)).view.set) fs (fs 0) fun h _ h' _ ne => slots_apart k h h' ne) $$ H
  icases H with ⟨%g, -, H⟩
  rw [slots_cover k]
  iexists _, g
  isplitr; · ipureintro; rfl
  iexact H

/-- A whole buffer held at some contents. -/
theorem whole_any (c : Dev nD) (b : Ref sig .tc) :
    (any c (Memref.whole b) : sProp 𝕄) = iprop(∃ f : Buf (Elt F) ((c : Thread nD τ).loc b), ((c : Thread nD τ).loc b) ↦{fullShare} f) := by
  have e : (any c (Memref.whole b) : sProp 𝕄) ⊣⊢ iprop(∃ f : Buf (Elt F) ((c : Thread nD τ).loc b), ((c : Thread nD τ).loc b) ↦{fullShare} f) := by
    unfold any owns
    simp only [Memref.view_whole, View.read_whole, View.set_whole]
    constructor
    · iintro ⟨%Y, %f, -, H⟩; iexists f; iexact H
    · iintro ⟨%f, H⟩; iexists f, f
      isplitr; · ipureintro; rfl
      iexact H
  exact Entails.antisymm e.1 e.2

/-- The scoped buffers that the body works on. -/
theorem scoped_eq (c : Dev nD) :
    (Pipeline.scopedRest cfg0.spec c : sProp 𝕄) ⊣⊢ iprop(fetched c ∗ slots c ∗ (any c (sendM 0) ∗ any c (sendM 1))) := by
  rw [scopedRest0_eq]
  simp only [← whole_any]
  unfold fetched slots
  constructor
  · iintro ⟨B0, B1, B2, B3, B5, B6, B7, B8⟩
    ihave B7 := (land_split (F := F) c 0) $$ B7
    ihave B8 := (land_split (F := F) c 1) $$ B8
    icases B7 with ⟨F00, F10, F20⟩
    icases B8 with ⟨F01, F11, F21⟩
    iframe
  · iintro ⟨⟨B0, B1, B2, B3⟩, ⟨⟨F00, F01⟩, ⟨F10, F11⟩, ⟨F20, F21⟩⟩, B5, B6⟩
    ihave B7 := (land_join (F := F) c 0) $$ [F00 F10 F20]
    · iframe
    ihave B8 := (land_join (F := F) c 1) $$ [F01 F11 F21]
    · iframe
    iframe

/-! ## The semaphores at launch -/

/-- The kernel's own semaphores: the four of the input copies, and a copy's two for each hop and half. -/
abbrev osem : Fin 4 ⊕ (Bool × Slot) → SemLoc sig
  | .inl j => .dma (fetchS j)
  | .inr (false, s) => .dma (outS s)
  | .inr (true, s) => .dma (innS s)

/-- The kernel's own semaphores are all of its scoped ones that the pipeline does not stage with. -/
theorem ownSemFacts : Pipeline.OwnSemFacts cfg0.spec osem := by decide

/-- The runtime's barrier semaphore is the one that outlives the kernel. -/
theorem unscoped_gate (c : Dev nD) : (unscopedSems0 c : sProp 𝕄) = semVal (gate c) 0 := by
  unfold unscopedSems0; rw [bigSep_eq_bigSepL_of_eq [SemLoc.reg gateS] (by decide) (by decide)]; rfl

/-- The kernel's own semaphores, sorted into the four fetches and the two sides of the exchange. -/
theorem own_sems (c : Dev nD) :
    (Pipeline.ownSems0 (Ix := Unit) (Name := ℕ) (U := UU) (Lvl := ℕ) (Val := Elt F) (τ := τ) osem c : sProp 𝕄)
      = iprop(quiet c ∗ (bigSep Finset.univ fun s => semVal (out c s) 0) ∗ bigSep Finset.univ fun s => semVal (inn c s) 0) := by
  unfold Pipeline.ownSems0
  rw [bigSep_univ_sum, over_sides]
  exact congrArg₂ _ (bigSep_univ_eq_bigSepL [0, 1, 2, 3] (by decide) (by decide) _) rfl

/-- All counters of a device at zero: those of the exchange, and the input copies'. -/
theorem sems_at_zero (c : Dev nD) :
    iprop(Pipeline.ownSems0 (Ix := Unit) (Name := ℕ) (U := UU) (Lvl := ℕ) (Val := Elt F) (τ := τ) osem c ∗ unscopedSems0 c)
      ⊢ (iprop((bigSep Finset.univ fun k : Cell => semVal (cellAt (c, k)) 0) ∗ quiet c) : sProp 𝕄) := by
  rw [own_sems, unscoped_gate, over_cells]
  simp only [cellAt]
  iintro ⟨⟨HZ, HS, HV⟩, HB⟩
  iframe

/-! ## The exchange's ghost state -/

/-- The part that a cell plays in the exchange. -/
def Cell.role : Cell → Role
  | none => .gate
  | some (false, s) => .out s
  | some (true, s) => .inn s

/-- The semaphore at a cell's place plays that cell's part. -/
theorem role_cellAt (ck : Dev nD × Cell) : role (cellAt ck).2 = ck.2.role := by
  rcases ck with ⟨c, _ | ⟨_ | _, s⟩⟩
  · exact role_gate
  · exact role_out s
  · exact role_inn s

/-- Different cells play different parts. -/
theorem Cell.role_injective : Function.Injective Cell.role := by
  rintro (_ | ⟨_ | _, s⟩) (_ | ⟨_ | _, s'⟩) h <;> cases h <;> rfl

/-- A cell's semaphore is on the device that the cell names. -/
theorem cellAt_dev (ck : Dev nD × Cell) : (cellAt ck).1.1 = ck.1 := by
  rcases ck with ⟨c, _ | ⟨_ | _, s⟩⟩ <;> rfl

/-- Different cells are different semaphores. -/
theorem cellAt_injective : Function.Injective cellAt := fun ck ck' h =>
  Prod.ext (by rw [← cellAt_dev, h, cellAt_dev]) (Cell.role_injective (by rw [← role_cellAt, h, role_cellAt]))

/-- The duties, by the cell that they belong to: three at a gate, one at a copy's cell. -/
def tokAt (ct : Dev nD × (Fin 3 ⊕ (Bool × Slot))) : GSem nD τ sig × ℕ × Fin 3 :=
  match ct.2 with
  | .inl h => (cellAt (ct.1, none), 0, h)
  | .inr bs => (cellAt (ct.1, some bs), 0, 0)

/-- Different tokens are of different duties. -/
theorem tokAt_injective : Function.Injective tokAt := by
  rintro ⟨c, h | bs⟩ ⟨c', h' | bs'⟩ e
  · have a : (c, none) = (c', none) := cellAt_injective (congrArg Prod.fst e)
    have b : h = h' := congrArg (fun x => x.2.2) e
    cases a; cases b; rfl
  · have a : (c, none) = (c', some bs') := cellAt_injective (congrArg Prod.fst e)
    cases a
  · have a : (c, some bs) = (c', none) := cellAt_injective (congrArg Prod.fst e)
    cases a
  · have a : (c, some bs) = (c', some bs') := cellAt_injective (congrArg Prod.fst e)
    cases a; rfl

/-- Every cell of the exchange, over all devices. -/
def allCells : Finset (GSem nD τ sig) := Finset.univ.map ⟨cellAt, cellAt_injective⟩
/-- Every token of the exchange, over all devices. -/
def allToks : Finset (GSem nD τ sig × ℕ × Fin 3) := Finset.univ.map ⟨tokAt, tokAt_injective⟩

/-- The ghost state at launch: the pipeline's, the exchange's, and the counters'. -/
def u₀ : UU := (initOf (Pipeline.cells cfgs cellOf_inj) (Pipeline.launchToks cfgs cellOf_inj), (initOf allCells allToks, 1))

/-- The tokens of a device's own cells. -/
def minted (c : Dev nD) : sProp 𝕄 :=
  iprop((bigSep Finset.univ fun h : Fin 3 => dutyTok EX (gate c) 0 h) ∗ (bigSep Finset.univ fun s => dutyTok EX (out c s) 0 0)
    ∗ bigSep Finset.univ fun s => dutyTok EX (inn c s) 0 0)

/-- The tokens of the duties that a device pays. -/
def paying (c : Dev nD) : sProp 𝕄 :=
  iprop((bigSep Finset.univ fun h : Fin 3 => dutyTok EX (gate ((hop h).symm c)) 0 h) ∗ (bigSep Finset.univ fun s => dutyTok EX (out c s) 0 0)
    ∗ bigSep Finset.univ fun s => dutyTok EX (inn (hop s.1 c) s) 0 0)

/-- The tokens, minted at the cell that they pay into, are dealt to the devices that pay. -/
theorem tokens_dealt : (bigSep Finset.univ fun c => (minted c : sProp 𝕄)) = bigSep Finset.univ fun c => paying c := by
  unfold minted paying
  rw [bigSep_sep', bigSep_sep', bigSep_sep', bigSep_sep', dealt (fun h => (hop h).symm) fun c h => dutyTok EX (gate c) 0 h,
    dealt (fun s : Slot => hop s.1) fun c s => dutyTok EX (inn c s) 0 0]

/-- What the launch's ghost state gives a device. -/
def G (c : Dev nD) : sProp 𝕄 :=
  iprop((bigSep Finset.univ fun k : Cell => roundState EX (plan m) (cellAt (c, k)) 0)
    ∗ (bigSep Finset.univ fun k : Cell => atPos EX (cellAt (c, k)) 0 ∅ 0) ∗ (bigSep Finset.univ fun k : Cell => reached EX (cellAt (c, k)) 0) ∗ minted c)

/-- The ghost state of the exchange gives every device its cells at their start. -/
theorem fund_exchange : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (cellAt (c, k)) := by
    unfold allCells; rw [bigSep_map, bigSep_univ_prod]; rfl
  have hT : bigSep allToks (fun x => (dutyTok EX x.1 x.2.1 x.2.2 : sProp 𝕄)) = bigSep Finset.univ fun c : Dev nD => minted c := by
    unfold allToks; rw [bigSep_map, bigSep_univ_prod]
    refine bigSep_congr fun c _ => ?_
    rw [bigSep_univ_sum, over_sides]
    rfl
  unfold G
  rw [bigSep_sep', bigSep_sep', bigSep_sep', ← hT, ← hX fun g => roundState EX (plan m) g 0, ← hX fun g => atPos EX g 0 ∅ 0,
    ← hX fun g => reached EX g 0]
  iintro H
  imod (Rounds.fund EX (plan m) allCells allToks) $$ H with ⟨Hst, Hr, Hat, Htok⟩
  imodintro
  isplitl [Hst]; · iexact Hst
  isplitl [Hat]; · iexact Hat
  isplitl [Hr]; · iexact Hr
  iexact Htok

/-- A device's positions in its cells. -/
def positions (c : Dev nD) : sProp 𝕄 :=
  iprop(atPos EX (gate c) 0 ∅ 0 ∗ (bigSep Finset.univ fun s => atPos EX (out c s) 0 ∅ 0) ∗ bigSep Finset.univ fun s => atPos EX (inn c s) 0 ∅ 0)

/-- What a device starts from once all cells are in place. -/
def G' (c : Dev nD) : sProp 𝕄 := iprop(∃ K, records m K ∗ positions c ∗ paying c ∗ quiet c)

/-- The invariants of a device's cells, made from their counters at zero. -/
theorem cells_made (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv EX (plan m) κ (cellAt (c, k))))
          ∗ (bigSep Finset.univ fun k : Cell => reached EX (cellAt (c, k)) 0) ∗ positions c ∗ minted c ∗ quiet c) := by
  have make : iprop((bigSep Finset.univ fun k : Cell => semVal (cellAt (c, k)) 0) ∗ bigSep Finset.univ fun k : Cell => roundState EX (plan m) (cellAt (c, k)) 0)
      ⊢ (|={Set.univ}=> bigSep Finset.univ fun k : Cell => iprop(∃ κ : ℕ, cellInv EX (plan m) κ (cellAt (c, k))) : sProp 𝕄) := by
    rw [← bigSep_sep']
    exact (bigSep_mono fun k _ => (Rounds.body_intro EX (plan m) (cellAt (c, k))).trans inv_alloc).trans (bigSep_fupd _ _)
  unfold G
  rw [show (bigSep Finset.univ fun k : Cell => atPos EX (cellAt (c, k)) 0 ∅ 0 : sProp 𝕄) = positions c from over_cells _]
  iintro ⟨Ho, Hu, Hst, Hat, Hr, Ht⟩
  ihave Hz := (sems_at_zero (F := F) c) $$ [Ho Hu]
  · isplitl [Ho] <;> iassumption
  icases Hz with ⟨Hv, HZ⟩
  imod make $$ [Hv Hst] with HI
  · isplitl [Hv] <;> iassumption
  imodintro
  isplitl [HI]; · iexact HI
  isplitl [Hr]; · iexact Hr
  isplitl [Hat]; · iexact Hat
  isplitl [Ht] <;> iassumption

/-- What is minted cell by cell is, regrouped, what each device starts with. -/
theorem regrouped :
    (bigSep Finset.univ fun c : Dev nD => iprop((bigSep Finset.univ fun k : Cell => iprop(∃ κ : ℕ, cellInv EX (plan m) κ (cellAt (c, k))))
          ∗ (bigSep Finset.univ fun k : Cell => reached EX (cellAt (c, k)) 0) ∗ positions c ∗ minted c ∗ quiet c) : sProp 𝕄)
      ⊢ bigSep Finset.univ (G' m) := by
  rw [bigSep_sep', bigSep_sep', bigSep_sep', bigSep_sep', tokens_dealt,
    ← bigSep_univ_prod fun ck : Dev nD × Cell => iprop(∃ κ : ℕ, cellInv EX (plan m) κ (cellAt ck)),
    ← bigSep_univ_prod fun ck : Dev nD × Cell => (reached EX (cellAt ck) 0 : sProp 𝕄)]
  iintro ⟨HI, HR, HP, HT, HZ⟩
  ihave HK := (BI.bigSep_exists_pi Finset.univ (fun (ck : Dev nD × Cell) (κ : ℕ) => (cellInv EX (plan m) κ (cellAt ck) : sProp 𝕄))) $$ HI
  icases HK with ⟨%K, HI⟩
  iapply (beside_persistent (R := records m K) (Φ := fun c => iprop(positions c ∗ paying c ∗ quiet c)) fun c _ => by
    unfold G'
    iintro H
    iexists K; iexact H)
  isplitl [HI HR]
  · unfold records; isplitl [HI] <;> iassumption
  rw [bigSep_sep', bigSep_sep']
  isplitl [HP]; · iexact HP
  isplitl [HT] <;> iassumption

/-- All devices' counters at once become all devices' starting points. -/
theorem everyone_ready :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => cells_made m c).trans (bigSep_fupd _ _)).trans (BI.fupd_mono (regrouped m))

/-! ## The credits: what all devices together owe to one -/

/-- Two gates are one only on one device. -/
theorem gate_eq_iff {a b : Dev nD} : gate a = gate b ↔ a = b :=
  ⟨fun h => congrArg (fun g : GSem nD τ sig => g.1.1) h, fun h => h ▸ rfl⟩
/-- Two receive cells are one only on one device and for one slot. -/
theorem inn_eq_iff {a b : Dev nD} {s t : Slot} : inn a s = inn b t ↔ a = b ∧ s = t :=
  ⟨fun h => by have e : (a, some (true, s)) = (b, some (true, t)) := cellAt_injective h; cases e; exact ⟨rfl, rfl⟩, fun h => by rw [h.1, h.2]⟩
/-- A gate is no receive cell. -/
theorem gate_ne_inn {a b : Dev nD} {s : Slot} : gate a ≠ inn b s := fun h => by
  have e : (a, none) = (b, some (true, s)) := cellAt_injective h
  cases e

/-- Everything that a device owes at the start. -/
abbrev O₀ (c : Dev nD) : CellTallies nD τ sig Unit := debt c Finset.univ Finset.univ

/-- What a device owes a cell at the start: a signal to each other gate and a copy into each slot it sends to. -/
theorem debt_apply (d : Dev nD) (g : GSem nD τ sig) :
    O₀ d g () = (∑ s : Slot, if g = inn (hop s.1 d) s then N else 0) + ∑ h : Fin 3, if g = gate ((hop h).symm d) then 1 else 0 := by
  unfold O₀ debt due sig1
  rw [Pi.add_apply, Finsupp.add_apply, Finset.sum_apply, Finset.sum_apply, Finsupp.finsetSum_apply, Finsupp.finsetSum_apply]
  simp only [tallyAt_apply, and_true]

/-- The devices together owe a gate three signals. -/
theorem owed_to_gate (c : Dev nD) : (∑ d : Dev nD, O₀ d (gate c) ()) = 3 := by
  have each (d : Dev nD) : O₀ d (gate c) () = ∑ h : Fin 3, if d = hop h c then 1 else 0 := by
    rw [debt_apply, Finset.sum_eq_zero fun s _ => if_neg gate_ne_inn, Nat.zero_add]
    refine Finset.sum_congr rfl fun h _ => ?_
    refine if_congr ?_ rfl rfl
    rw [gate_eq_iff, Equiv.eq_symm_apply]
    exact eq_comm
  rw [Finset.sum_congr rfl fun d _ => each d, Finset.sum_comm]
  simp only [Finset.sum_ite_eq', Finset.mem_univ, if_true]
  rfl

/-- The devices together owe a receive cell one copy. -/
theorem owed_to_inn (c : Dev nD) (s : Slot) : (∑ d : Dev nD, O₀ d (inn c s) ()) = N := by
  have each (d : Dev nD) : O₀ d (inn c s) () = if d = (hop s.1).symm c then N else 0 := by
    rw [debt_apply, Finset.sum_eq_zero (s := Finset.univ (α := Fin 3)) fun h _ => if_neg (Ne.symm gate_ne_inn), Nat.add_zero,
      Finset.sum_eq_single s (fun t _ ne => if_neg fun e => ne (inn_eq_iff.mp e).2.symm) fun h => absurd (Finset.mem_univ s) h]
    refine if_congr ?_ rfl rfl
    rw [inn_eq_iff, Equiv.eq_symm_apply]
    exact ⟨fun h => h.1.symm, fun h => ⟨h.symm, rfl⟩⟩
  rw [Finset.sum_congr rfl fun d _ => each d, Finset.sum_ite_eq', if_pos (Finset.mem_univ _)]

/-- What all devices together owe a cell is the credit that its device may wait for. -/
theorem credit_at {g : GSem nD τ sig} {n : ℕ} (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The cells that a device waits on with credits of the launch. -/
def incoming : Option Slot → SemLoc sig
  | none => .reg gateS
  | some s => .dma (innS s)

/-- The cells that a device waits on are different. -/
theorem incoming_injective : Function.Injective incoming := by
  rintro (_ | s) (_ | t) h
  · rfl
  · cases h
  · cases h
  · have e := role_inn s
    rw [show SemLoc.dma (innS s) = SemLoc.dma (innS t) from h, role_inn] at e
    cases e; rfl

/-- A device's credits: three units at its gate and a copy at each receive cell. -/
theorem credits (c : Dev nD) :
    (Pipeline.launchCred O₀ c : sProp 𝕄) ⊢ iprop(cred (tallyAt (gate c) () 3) ∗ bigSep Finset.univ fun s => cred (tallyAt (inn c s) () N)) := by
  have split : (bigSep (Finset.univ.map ⟨incoming, incoming_injective⟩) fun sm : SemLoc sig =>
        (cred (tallyOn ((c : Thread nD τ), sm) (launchCredit (Pipeline.owing O₀) 0 ((c : Thread nD τ), sm))) : sProp 𝕄))
      = iprop(cred (tallyAt (gate c) () 3) ∗ bigSep Finset.univ fun s => cred (tallyAt (inn c s) () N)) := by
    rw [bigSep_map, bigSep_univ_equiv ((Equiv.sumComm Unit Slot).trans (Equiv.optionEquivSumPUnit Slot).symm), bigSep_univ_sum]
    refine congrArg₂ _ ?_ ?_
    · rw [← credit_at (owed_to_gate c)]
      exact bigSep_univ_eq_bigSepL [()] (by decide) (by decide) _
    · refine bigSep_congr fun s _ => ?_
      rw [← credit_at (owed_to_inn c s)]
      rfl
  rw [← split]
  exact bigSep_subset (Finset.subset_univ _)

/-! ## The pipeline's data, and the body's obligation -/

/-- A device before its body. -/
def start (c : Dev nD) : sProp 𝕄 := iprop((∃ K, records m K) ∗ levAts L lv ∗ tickets c ∗ inputs m c ∗ quiet c)
/-- What a device holds when its body starts. -/
def before (c : Dev nD) : sProp 𝕄 := iprop(start m c ∗ fetched c ∗ slots c ∗ (any c (sendM 0) ∗ any c (sendM 1)))
/-- A device after its body. -/
def after (c : Dev nD) : sProp 𝕄 := iprop((closed c ∗ inputs m c ∗ quiet c) ∗ fetched c ∗ slots c ∗ (any c (sendM 0) ∗ any c (sendM 1)))

/-- What a device's result array holds in the end. -/
abbrev result (c : Dev nD) : S256x256.Idx → Elt F .bf16 := glue (upper m c) (lower m c)

/-- The launch's data: the arguments' contents, the result and what is held before and after the body. -/
def dats (_ : Fin 1) (c : Dev nD) : Dat τ (Elt F) Unit ℕ UU ℕ cfg0 c where
  A w := m ((cfg0.win w).arr.view.loc (c : Thread nD τ))
  after w _ := match w with
    | ⟨0, _⟩ => result m c
    | ⟨_ + 1, h⟩ => absurd h (Nat.not_lt.2 (Nat.le_add_left _ _))
  Φ t := match t with
    | ⟨0, _⟩ => before m c
    | ⟨_ + 1, _⟩ => after m c
  q _ := fullShare
  owed t := match t with
    | ⟨0, _⟩ => O₀ c
    | ⟨_ + 1, _⟩ => 0

/-- The result's window is held outright. -/
theorem share_eq (c : Dev nD) (w : Fin cfg0.W) : (dats m 0 c).share w = fullShare := by unfold Dat.share; split <;> rfl

/-- The body's run, in the form that the launch theorem asks for. -/
theorem body_obligation (c : Dev nD) : BodyObligation (dats (F := F) m 0 c) (defs₀ (F := F)) 𝒱₀ () Set.univ := fun t => by
  rw [fin_N0 t, bigSep_W0, bigSep_W0]
  show iprop(before m c ∗ (dats m 0 c).owesAt () t0_0.castSucc ∗ ∃ d, owns (c : Thread nD τ) (Memref.whole cc0_stg0_0) fullShare ((dats m 0 c).before (0 : Fin 1) t0_0 d))
    ⊢ runs c (onBufs (Memref.whole cc0_stg0_0) (hstage0_0 0) (cc0_body (F := F)))
        fun _ => iprop(after m c ∗ (dats m 0 c).owesAt () t0_0.succ ∗ owns (c : Thread nD τ) (Memref.whole cc0_stg0_0) fullShare (result m c))
  unfold before start Dat.owesAt Pipeline.owesWithin
  rw [show (dats m 0 c).owed t0_0.castSucc = O₀ c from rfl, show (dats m 0 c).owed t0_0.succ = 0 from rfl]
  iintro ⟨⟨⟨⟨%K, HR⟩, Hlev, HT, HI, HZ⟩, HB, HS, H56⟩, ⟨%W, %hW, HO⟩, ⟨%d, Ho⟩⟩
  iapply (run_body m K c (Memref.whole cc0_stg0_0) (hstage0_0 0)) $$ [HR Hlev HT HI HZ HB HS H56 HO Ho]
  · isplitl [HR]; · iexact HR
    isplitl [Hlev]; · iexact Hlev
    isplitl [HO]; · unfold owing; iexists W; iexact HO
    isplitl [HT]; · iexact HT
    isplitl [HI]; · iexact HI
    isplitl [HB]; · iexact HB
    isplitl [HS]; · iexact HS
    isplitl [HZ]; · iexact HZ
    isplitl [H56]; · iexact H56
    unfold any; iexists _; iexact Ho
  unfold after owing
  rw [debt_none]
  iintro ⟨⟨%W', HO⟩, HC, HI, HB, HS, HZ, H56, Ho⟩
  isplitl [HC HI HB HS HZ H56]
  · iframe
  isplitl [HO]
  · iexists W'
    isplitr; · ipureintro; exact fun _ _ => Or.inl trivial
    iexact HO
  iexact Ho

/-! ## Before and after the pipeline -/

/-- What a device is given at launch is what its body starts from. -/
theorem started (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄) = inputs m c from
    (Pipeline.unscopedRestP_eq_of_list c (win := cfg0.spec) Pipeline.Prefetch.none (fun b => m ((c : Thread nD τ).loc b)) [main_arg0, main_arg1, main_arg2, main_arg3] (by decide) (by decide)).trans
      (by unfold inputs; simp only [owns_whole]; rfl)]
  unfold G' positions paying
  simp only [over_hops, over_slots]
  iintro ⟨HA, Hlev, Hcr, -, ⟨%K, HR, ⟨Pg, ⟨P00, P10, P20, P01, P11, P21⟩, ⟨Q00, Q10, Q20, Q01, Q11, Q21⟩⟩, ⟨Tg, ⟨T00, T10, T20, T01, T11, T21⟩, ⟨U00, U10, U20, U01, U11, U21⟩⟩, HZ⟩⟩
  ihave Hcr := (credits (F := F) c) $$ Hcr
  rw [over_slots]
  icases Hcr with ⟨Cg, ⟨C00, C10, C20, C01, C11, C21⟩⟩
  imodintro
  unfold start tickets toks awaits
  isplitl
  · isplitl [HR]; · iexists K; iexact HR
    isplitl [Hlev]; · iexact Hlev
    isplitr [HA HZ]
    · iframe
    isplitl [HA] <;> iassumption
  · iempintro

/-- The scoped buffers and semaphores, handed over at entry, complete what the body starts from. -/
theorem entered (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs]; · iexact Hs
  iapply (scoped_eq (F := F) c).1
  iexact Hr

/-- What the body leaves gives the scoped buffers and semaphores back. -/
theorem left (c : Dev nD) :
    (dats m 0 c).Φ (Fin.last cfg0.N) ⊢ iprop((unscopedSems0 c ∗ inputs m c) ∗ Pipeline.ownSems0 osem c ∗ Pipeline.scopedRest cfg0.spec c) := by
  rw [show (dats m 0 c).Φ (Fin.last cfg0.N) = after m c from rfl, own_sems, unscoped_gate, over_slots, over_slots]
  unfold after closed
  iintro ⟨⟨⟨Hg, HO, HV⟩, HI, HZ⟩, Hr⟩
  isplitl [Hg HI]
  · isplitl [Hg] <;> iassumption
  isplitl [HO HV HZ]
  · isplitl [HZ]; · iexact HZ
    isplitl [HO] <;> iassumption
  iapply (scoped_eq (F := F) c).2
  iexact Hr

/-- The semaphore that the result is staged with plays no part in the exchange. -/
theorem stage_role : ∀ (w : Fin cfg0.W) (s : Fin (cfg0.win w).nbuf), role (.dma ((cfg0.win w).sem s)) = .none := fun w s => by
  fin_cases w; fin_cases s; rfl

/-- The staging semaphore's wait is allowed whatever is owed. -/
theorem waits (c : Dev nD) : (levAts L lv : sProp 𝕄) ⊢ Pipeline.cellsWaits cfgs (dats m) () 0 c :=
  Pipeline.cellsWaits_intro cfgs (dats m) () 0 c fun w s t => by
    have low : lv ((c : Thread nD τ), .dma ((cfg0.win w).sem s)) () ≤ 0 := by dsimp only [lv]; rw [stage_role]
    rcases t with ⟨_ | _, ht⟩
    · exact may_wait c _ Finset.univ Finset.univ 0 low (by decide) (Or.inr (by decide))
    · have := may_wait (F := F) c _ ∅ ∅ 0 low (by decide) (Or.inl rfl)
      rw [debt_none] at this
      exact this

/-! ## The run -/

/-- The result array is written back whole: it ends holding the two sums. -/
theorem result_written (c : Dev nD) : (dats m 0 c).arrAt (0 : Fin 1) cfg0.N = result m c := by
  refine (dats m 0 c).arrAt_eq_of_cover (0 : Fin 1) (result m c) (fun t _ => ?_) fun i => ⟨t0_0, flush0_0 _, ?_⟩
  · obtain rfl := fin_N0 t
    unfold Pipeline.Dat.flushed
    rw [show (dats m 0 c).after (0 : Fin 1) t0_0 = result m c from rfl]
    refine funext fun j => congrArg (result m c) (funext fun a => Fin.ext ?_)
    show (j a).val = (0 * S256x256.size a) + 1 * (j a).val
    omega
  · show i ∈ ((View.whole main_v1).slice (win0_0.rect t0_0)).set
    rw [View.set_slice_whole]
    refine Rect.mem_set_unit.mpr fun a => ⟨?_, ?_⟩
    · show 0 * _ ≤ _
      omega
    · show (i a).val < 0 * _ + S256x256.size a
      have : (i a).val < S256x256.size a := (i a).isLt
      omega

/-- At the compiled mesh of four devices, for any float values, from any memory with zero counters: every weakly fair
    execution of the program terminates, and every final state has each device's result at the sum of the four partial
    results, the arguments unchanged, and every semaphore counter at zero. -/
theorem run_main : θ_run defs (onTc (τ := τ) (main (F := F))) ⟨m, fun _ => 0, ρ⟩ (fun r =>
    (∀ c : Dev nD, r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (Entails.of_eq (show (BI.own (embR ((initOf allCells allToks, 1) : UX × Counters)) : sProp 𝕄) = BI.own (EX (initOf allCells allToks)) from rfl)) $$ HX
      imod (fund_exchange m) $$ HX with HG
      imodintro
      isplitl [HP] <;> iassumption)
    (hglob := everyone_ready m)
    (hA := fun _ _ => rfl) (hpf := fun _ k => k.elim0)
    (X := start m) (Y := fun c => iprop(unscopedSems0 c ∗ inputs m c)) (Z := fun _ => iprop(emp))
    (hX := started m ρ) (hin := entered m) (hout := left m)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      unfold inputs
      simp only [owns_whole]
      iintro ⟨⟨Hu, A0, A1, A2, A3⟩, -, HSI⟩
      icombine HSI A0 gives %h0
      icombine HSI A1 gives %h1
      icombine HSI A2 gives %h2
      icombine HSI A3 gives %h3
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ h0, Buf.eq_of_forall_mem_univ h1, Buf.eq_of_forall_mem_univ h2, Buf.eq_of_forall_mem_univ h3⟩, hs⟩
      iexact HSI)
    (hQ := fun _ h hs => ⟨fun c => ⟨((h c).1 (0 : Fin 1)).trans (result_written m c), (h c).2.2.1⟩, sem_eq_zero hs fun c => (h c).2.2.2⟩)

end Cert.Exchange

end
-- ==== Proof.Value.lean ====
/-
# The values, at exact arithmetic

At exact arithmetic the kernel's result on every device is the reference's: each device's own partial product covers a
quarter of the hidden columns, and a device adds its three partners' quarters to its own.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.KernelVsHost
public import Idealize.ShloMosaic.Lib.StackMember
public import Idealize.ShloMosaic.Lib.Pointwise.Sums

@[expose] public section

noncomputable section

namespace Cert.Exchange

open Cert.KernelIdeal Cert.KernelIdeal.Gen
open Idealize.ShloMosaic
open Idealize.ShloMosaic.TcCoe
open Idealize.SL.Sem
open scoped BigOperators

/-! ## Arithmetic -/

/-- The index of a matrix at row `a`, column `b`. -/
abbrev cell {p q : ℕ} (a : Fin p) (b : Fin q) : (⟨2, ![p, q]⟩ : Shape).Idx := ValueIdx.ix2 a b

/-- An exponential is never negative. -/
theorem zero_le_exp (t : EReal) : 0 ≤ Ideal.exp t := by
  induction t using EReal.rec with
  | bot => simp
  | top => simp
  | coe r => rw [Ideal.exp_coe]; exact_mod_cast (Real.exp_pos r).le

/-- `t` times the logistic function of `t` is `t` over `1 + exp (-t)`. -/
theorem silu_forms (t : EReal) : t * Ideal.logistic t = Ideal.div t (1 + Ideal.exp (-t)) := by
  have h : (1 + Ideal.exp (-t)) ≠ 0 := by
    have h1 : (1 : EReal) ≤ 1 + Ideal.exp (-t) := le_add_of_nonneg_right (zero_le_exp _)
    exact (lt_of_lt_of_le zero_lt_one h1).ne'
  unfold Ideal.logistic Ideal.div
  rw [if_neg h, if_neg h, one_mul]

/-- The gated unit of row `r`, column `j`: the gate's product times the activation of the up projection. -/
def gated {n : ℕ} (x : Fin 256 → Fin 256 → EReal) (g u : Fin 256 → Fin n → EReal) (r : Fin 256) (j : Fin n) : EReal :=
  (∑ a, x r a * g a j) * ((∑ a, x r a * u a j) * Ideal.logistic (∑ a, x r a * u a j))

/-- One entry of the product over `n` hidden columns. -/
def mlp {n : ℕ} (x : Fin 256 → Fin 256 → EReal) (g u : Fin 256 → Fin n → EReal) (d : Fin n → Fin 256 → EReal)
    (r q : Fin 256) : EReal :=
  ∑ j, gated x g u r j * d j q

/-- Column `j` of device `c`'s quarter, in the whole. -/
def col (c : Fin 4) (j : Fin 512) : Fin 2048 := ⟨c.val * 512 + j.val, by omega⟩

/-- The whole is the sum over the devices of what each one's quarter of the hidden columns gives. -/
theorem mlp_quarters (x : Fin 256 → Fin 256 → EReal) (g u : Fin 256 → Fin 2048 → EReal) (d : Fin 2048 → Fin 256 → EReal)
    (r q : Fin 256) :
    mlp x g u d r q = ∑ c : Fin 4, mlp x (fun a j => g a (col c j)) (fun a j => u a (col c j)) (fun j => d (col c j)) r q :=
  Fin.sum_univ_tiles 4 512 rfl _

/-- A device's own term and those of the three others, in the order they are added, make the sum over the devices. -/
theorem sum_hops (f : Dev nD → EReal) (c : Dev nD) :
    f c + f ((hop 0).symm c) + f ((hop 2).symm c) + f ((hop 1).symm c) = ∑ e, f e := by
  have key : ∀ c : Dev nD, (Finset.univ : Finset (Dev nD)) = {c, (hop 0).symm c, (hop 2).symm c, (hop 1).symm c}
      ∧ c ∉ ({(hop 0).symm c, (hop 2).symm c, (hop 1).symm c} : Finset (Dev nD))
      ∧ (hop 0).symm c ∉ ({(hop 2).symm c, (hop 1).symm c} : Finset (Dev nD)) ∧ (hop 2).symm c ≠ (hop 1).symm c := by decide
  obtain ⟨h, h1, h2, h3⟩ := key c
  rw [h, Finset.sum_insert h1, Finset.sum_insert h2, Finset.sum_pair h3]
  simp only [add_assoc]

/-! ## The kernel's parts -/

/-- A matrix by its two coordinates. -/
abbrev grid {p q : ℕ} {φ : FTy} (v : FVec Ideal ⟨2, ![p, q]⟩ φ) : Fin p → Fin q → EReal := fun a b => v (cell a b)

section Pieces

variable (x : FVec Ideal S256x256 .f32) (g u : FVec Ideal S256x512 .f32) (d : FVec Ideal S512x256 .f32)

/-- An entry of the gated units that a device computes. -/
theorem gated_at (r : Fin 256) (j : Fin 512) : k0_pay1 (F := Ideal) x g u (cell r j) = gated (grid x) (grid g) (grid u) r j := by
  have prod : ∀ w : FVec Ideal S256x512 .f32,
      matmul dot_S256x256_S256x512_S256x512_1_0_0_1_n_n none (truncf .bf16 x bitsLt_bf16_f32) (truncf .bf16 w bitsLt_bf16_f32)
        (constant S256x512 .f32 0x00000000#32) (cell r j) = ∑ a, x (cell r a) * w (cell a j) := fun w => by
    rw [matmul_zero_eq_dotGeneral]
    exact StackMember.dotGeneral_plain_apply none _ _ r j
  show _ * (_ * Ideal.logistic _) = _
  unfold gated
  rw [← prod g, ← prod u]

/-- The product of 128 rows of the gated units, from row `o`. -/
theorem rows_at (o : ℕ) (h : S256x512.Slices ![o, 0] S128x512) (ho : o + 128 ≤ 256) (v : FVec Ideal S256x512 .bf16) (w : FVec Ideal S512x256 .bf16)
    (r : Fin 128) (q : Fin 256) :
    matmul dot_S128x512_S512x256_S128x256_1_0_0_1_n_n none (extractStridedSlice S128x512 ![o, 0] v h) w
      (constant S128x256 .f32 0x00000000#32) (cell r q) = ∑ j, v (cell ⟨o + r.val, by omega⟩ j) * w (cell j q) := by
  rw [matmul_zero_eq_dotGeneral]
  refine (StackMember.dotGeneral_plain_apply none _ _ r q).trans (Finset.sum_congr rfl fun j _ => ?_)
  refine congrArg (· * _) (extractStridedSlice_apply _ v h _ _ fun a => ?_)
  match a with
  | ⟨0, _⟩ => rfl
  | ⟨1, _⟩ => exact (Nat.zero_add _).symm

/-- An entry of the upper half of a device's own product, -/
theorem upper_rows_at (r : Fin 128) (q : Fin 256) :
    k0_pay3 (F := Ideal) x g u d (cell r q) = mlp (grid x) (grid g) (grid u) (grid d) ⟨r.val, by omega⟩ q := by
  refine (rows_at 0 _ (by omega) (k0_pay1 x g u) (k0_pay2 d) r q).trans (Finset.sum_congr rfl fun j _ => ?_)
  rw [gated_at]
  simp only [Nat.zero_add]
  rfl

/-- and of the lower half. -/
theorem lower_rows_at (r : Fin 128) (q : Fin 256) :
    k0_pay5 (F := Ideal) (k0_pay1 x g u) (k0_pay2 d) (cell r q) = mlp (grid x) (grid g) (grid u) (grid d) ⟨128 + r.val, by omega⟩ q := by
  refine (rows_at 128 _ (by omega) (k0_pay1 x g u) (k0_pay2 d) r q).trans (Finset.sum_congr rfl fun j _ => ?_)
  rw [gated_at]
  rfl

end Pieces

variable (m : (ℓ : Loc nD τ sig) → Buf (Elt Ideal) ℓ)

/-- What device `c`'s quarter gives at row `r`, column `q`. -/
def quarter (c : Dev nD) (r q : Fin 256) : EReal :=
  mlp (grid (φ := .f32) (xAt m c)) (grid (φ := .f32) (gAt m c)) (grid (φ := .f32) (uAt m c)) (grid (φ := .f32) (dAt m c)) r q

/-- What is taken out of a slot is what was put in. -/
theorem slot_read (X : FVec Ideal S128x256 .bf16) : shapeCast S128x256 (slotted (F := Ideal) X) shapeCasts_S1x128x256_S128x256 = X :=
  shapeCast_shapeCast X _ _

/-- What a device sends of the upper half is its quarter's entry, -/
theorem part_upper (c : Dev nD) (r : Fin 128) (q : Fin 256) : part m c 0 (cell r q) = quarter m c ⟨r.val, by omega⟩ q := by
  have e : part m c 0 = k0_pay4 (F := Ideal) (xAt m c) (gAt m c) (uAt m c) (dAt m c) := rfl
  rw [e]
  unfold k0_pay4
  rw [shapeCast_self]
  exact upper_rows_at _ _ _ _ r q

/-- and of the lower half too. -/
theorem part_lower (c : Dev nD) (r : Fin 128) (q : Fin 256) : part m c 1 (cell r q) = quarter m c ⟨128 + r.val, by omega⟩ q := by
  have e : part m c 1 = k0_pay7 (F := Ideal) (k0_pay6 (k0_pay1 (xAt m c) (gAt m c) (uAt m c)) (k0_pay2 (dAt m c))) := rfl
  rw [e]
  unfold k0_pay7
  rw [shapeCast_self]
  exact lower_rows_at _ _ _ _ r q

/-- The upper half of the result is the sum of the quarters, -/
theorem upper_at (c : Dev nD) (r : Fin 128) (q : Fin 256) : upper m c (cell r q) = ∑ e, quarter m e ⟨r.val, by omega⟩ q := by
  rw [← sum_hops (fun e => quarter m e ⟨r.val, by omega⟩ q) c]
  simp only [← part_upper]
  have e0 := congrFun (slot_read (got m c 0 0)) (cell r q)
  have e1 := congrFun (slot_read (got m c 1 0)) (cell r q)
  have e2 := congrFun (slot_read (got m c 2 0)) (cell r q)
  show k0_pay3 (F := Ideal) _ _ _ _ (cell r q) + shapeCast S128x256 (slotted (got m c 0 0)) _ (cell r q) + shapeCast S128x256 (slotted (got m c 2 0)) _ (cell r q)
    + shapeCast S128x256 (slotted (got m c 1 0)) _ (cell r q) = _
  rw [e0, e1, e2, upper_rows_at, part_upper]
  rfl

/-- and so is the lower half. -/
theorem lower_at (c : Dev nD) (r : Fin 128) (q : Fin 256) : lower m c (cell r q) = ∑ e, quarter m e ⟨128 + r.val, by omega⟩ q := by
  rw [← sum_hops (fun e => quarter m e ⟨128 + r.val, by omega⟩ q) c]
  simp only [← part_lower]
  have e0 := congrFun (slot_read (got m c 0 1)) (cell r q)
  have e1 := congrFun (slot_read (got m c 1 1)) (cell r q)
  have e2 := congrFun (slot_read (got m c 2 1)) (cell r q)
  show k0_pay5 (F := Ideal) _ _ (cell r q) + shapeCast S128x256 (slotted (got m c 0 1)) _ (cell r q) + shapeCast S128x256 (slotted (got m c 2 1)) _ (cell r q)
    + shapeCast S128x256 (slotted (got m c 1 1)) _ (cell r q) = _
  rw [e0, e1, e2, lower_rows_at, part_lower]
  rfl

/-- Every device ends with the sum of the four quarters at every entry. -/
theorem result_at (c : Dev nD) (i : S256x256.Idx) : result m c i = ∑ e, quarter m e (i 0) (i 1) := by
  have hi : (i 0).val < 256 := (i 0).isLt
  show glue _ _ i = _
  unfold glue
  split
  · next h => exact upper_at m c ⟨(i 0).val, h⟩ (i 1)
  · next h =>
    refine (lower_at m c ⟨(i 0).val - 128, by omega⟩ (i 1)).trans (Finset.sum_congr rfl fun e _ => ?_)
    congr 1
    apply Fin.ext
    show 128 + ((i 0).val - 128) = (i 0).val
    omega

/-! ## The reference -/

/-- The reference's result from its four arguments. -/
def wanted (x : FVec Ideal S256x256 .f32) (g u : FVec Ideal Cert.ReferenceIdeal.S256x2048 .f32) (d : FVec Ideal Cert.ReferenceIdeal.S2048x256 .f32) :
    FVec Ideal S256x256 .bf16 :=
  have gate := Host.dotGeneral (φ₁ := .f32) (φ₂ := .f32) Cert.ReferenceIdeal.dot_S256x256_S256x2048_S256x2048_1_0_0_1_n_n none x g
  have up := Host.dotGeneral (φ₁ := .f32) (φ₂ := .f32) Cert.ReferenceIdeal.dot_S256x256_S256x2048_S256x2048_1_0_0_1_n_n none x u
  have one := broadcastInDim Cert.ReferenceIdeal.S256x2048 ![] Cert.ReferenceIdeal.Gen.facts.bcast_S_S256x2048 (constant (F := Ideal) Cert.ReferenceIdeal.S_ .f32 0x3F800000#32)
  truncf .bf16 (Host.dotGeneral (φ₁ := .f32) (φ₂ := .f32) Cert.ReferenceIdeal.dot_S256x2048_S2048x256_S256x256_1_0_0_1_n_n none
    (mulf gate (Host.divf up (addf one (Host.exp (Host.negf up))))) d) bitsLt_bf16_f32

/-- An entry of the reference's result. -/
theorem wanted_at (x : FVec Ideal S256x256 .f32) (g u : FVec Ideal Cert.ReferenceIdeal.S256x2048 .f32) (d : FVec Ideal Cert.ReferenceIdeal.S2048x256 .f32)
    (r q : Fin 256) : wanted x g u d (cell r q) = mlp (grid x) (grid g) (grid u) (grid d) r q := by
  refine (StackMember.dotGeneral_plain_apply none _ _ r q).trans (Finset.sum_congr rfl fun j _ => congrArg (· * _) ?_)
  have prod : ∀ w : FVec Ideal Cert.ReferenceIdeal.S256x2048 .f32,
      Host.dotGeneral (φ₁ := .f32) (φ₂ := .f32) Cert.ReferenceIdeal.dot_S256x256_S256x2048_S256x2048_1_0_0_1_n_n none x w (cell r j) = ∑ a, x (cell r a) * w (cell a j) :=
    fun w => StackMember.dotGeneral_plain_apply none _ _ r j
  unfold gated
  rw [silu_forms, ← prod g, ← prod u, ← Ideal.ofBits_one_f32]
  rfl

/-- From arguments cut as the claim says, every device's result is the reference's. -/
theorem result_eq_wanted (x : FVec Ideal S256x256 .f32) (g u : FVec Ideal Cert.ReferenceIdeal.S256x2048 .f32) (d : FVec Ideal Cert.ReferenceIdeal.S2048x256 .f32)
    (hx : ∀ c, xAt m c = x) (hg : ∀ c, gAt m c = Layout.block ⟨2, ![256, 512]⟩ ⟨2, ![256, 2048]⟩ 1 4 c g)
    (hu : ∀ c, uAt m c = Layout.block ⟨2, ![256, 512]⟩ ⟨2, ![256, 2048]⟩ 1 4 c u)
    (hd : ∀ c, dAt m c = Layout.block ⟨2, ![512, 256]⟩ ⟨2, ![2048, 256]⟩ 0 4 c d) (c : Dev nD) : result m c = wanted x g u d := by
  funext i
  have across : ∀ (e : Fin 4) (w : FVec Ideal Cert.ReferenceIdeal.S256x2048 .f32),
      grid (φ := .f32) (Layout.block ⟨2, ![256, 512]⟩ ⟨2, ![256, 2048]⟩ 1 4 e w) = fun a j => grid w a (col e j) := fun e w =>
    funext fun a => funext fun j => congrArg w (funext fun b => match b with | ⟨0, _⟩ => rfl | ⟨1, _⟩ => rfl)
  have down : ∀ (e : Fin 4) (w : FVec Ideal Cert.ReferenceIdeal.S2048x256 .f32),
      grid (φ := .f32) (Layout.block ⟨2, ![512, 256]⟩ ⟨2, ![2048, 256]⟩ 0 4 e w) = fun j => grid w (col e j) := fun e w =>
    funext fun j => funext fun b => congrArg w (funext fun a => match a with | ⟨0, _⟩ => rfl | ⟨1, _⟩ => rfl)
  obtain ⟨r, q, rfl⟩ : ∃ r q : Fin 256, i = cell r q := ⟨i 0, i 1, ValueIdx.eq_ix2 i⟩
  rw [wanted_at, mlp_quarters]
  refine (result_at m c _).trans (Finset.sum_congr rfl fun e _ => ?_)
  show quarter m e r q = _
  unfold quarter
  rw [hx, hg, hu, hd]
  exact congr (congr (congr (congr (congrArg (mlp (grid x)) (across e g)) (across e u)) (down e d)) rfl) rfl

end Cert.Exchange

end
-- ==== Proof.lean ====
/-
# The claims

The kernel's run (Proof/Launch.lean) is proved once, for any reading of the floating-point operations; both frames of
the kernel are that run with its result forgotten. The value claim is the run at exact arithmetic, with the equality of
the values (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

section Text

variable {F : FTy → Type} [FloatOps F]

/-- The kernel read at exact arithmetic is its own text: the two kernels' bodies are one, -/
theorem body_eq : Cert.Kernel.cc0_body (F := F) = Cert.KernelIdeal.cc0_body (F := F) := rfl

/-- so are the tables that name them, -/
theorem table_eq : Cert.Kernel.defs₀ (F := F) = Cert.KernelIdeal.defs₀ (F := F) := by
  unfold Cert.Kernel.defs₀ Cert.KernelIdeal.defs₀
  refine congrArg Defs.onTc (funext fun l => funext fun x => ?_)
  match l with
  | 0 => rfl

/-- and the programs' tables with the pipeline in them. -/
theorem defs_eq : Cert.Kernel.defs (F := F) = Cert.KernelIdeal.defs (F := F) := congrArg (Pipeline.defs _) table_eq

/-- The programs themselves are one. -/
theorem main_eq : Cert.Kernel.main (F := F) = Cert.KernelIdeal.main (F := F) := rfl

end Text

/-- The kernel as printed: its run is that of the same text, with the result forgotten. -/
theorem frame_kernel : Cert.quiescent_Kernel (hKernel := Cert.Kernel.Gen.facts) := fun m ρ _ => by
  rw [defs_eq, main_eq]
  exact (θ_run (Cert.KernelIdeal.defs (F := Bits)) _ _).mono (fun _ h => ⟨fun c => (h.1 c).2, h.2⟩) (Cert.Exchange.run_main (F := Bits) m ρ)

/-- The same at exact arithmetic. -/
theorem frame_kernelIdeal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Cert.Exchange.run_main (F := Ideal) m ρ)

/-- The reference runs and leaves its arguments; it has no semaphore. -/
theorem frame_referenceIdeal : Cert.quiescent_ReferenceIdeal (hReferenceIdeal := Cert.ReferenceIdeal.Gen.facts) := fun m ρ _ =>
  (θ_run (Cert.ReferenceIdeal.defs (F := Ideal)) _ _).mono
    (fun _ h => ⟨fun c => (h c).2, funext fun s => match s with | (_, .reg s) => s.elim0 | (_, .dma s) => s.elim0⟩)
    (Cert.ReferenceIdeal.Value.run (F := Ideal) m ρ)

/-- Every device's result is the reference's result. -/
theorem value : Cert.algebraic_KernelIdeal_ReferenceIdeal (hKernelIdeal := Cert.KernelIdeal.Gen.facts) (hReferenceIdeal := Cert.ReferenceIdeal.Gen.facts) :=
  fun m ρ m' ρ' _ hargs =>
    ⟨Cert.Exchange.wanted (m' ((0 : Dev Cert.ReferenceIdeal.nD).tc.loc Cert.ReferenceIdeal.main_arg0))
        (m' ((0 : Dev Cert.ReferenceIdeal.nD).tc.loc Cert.ReferenceIdeal.main_arg1))
        (m' ((0 : Dev Cert.ReferenceIdeal.nD).tc.loc Cert.ReferenceIdeal.main_arg2))
        (m' ((0 : Dev Cert.ReferenceIdeal.nD).tc.loc Cert.ReferenceIdeal.main_arg3)),
      (θ_run (Cert.KernelIdeal.defs (F := Ideal)) _ _).mono
        (fun _ h c => ⟨(h.1 c).1.trans (Cert.Exchange.result_eq_wanted m _ _ _ _ (fun c => (hargs c).1) (fun c => (hargs c).2.1)
          (fun c => (hargs c).2.2.1) (fun c => (hargs c).2.2.2) c), (h.1 c).2⟩)
        (Cert.Exchange.run_main (F := Ideal) m ρ),
      (θ_run (Cert.ReferenceIdeal.defs (F := Ideal)) _ _).mono (fun _ h => h 0) (Cert.ReferenceIdeal.Value.run (F := Ideal) m' ρ')⟩

/-- Every claim. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
